-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x4 : Shape := ⟨2, ![1024, 4]⟩
abbrev S256x4 : Shape := ⟨2, ![256, 4]⟩
abbrev S256 : Shape := ⟨1, ![256]⟩
abbrev S5x2x32x32 : Shape := ⟨4, ![5, 2, 32, 32]⟩
abbrev S32 : Shape := ⟨1, ![32]⟩
abbrev S3x3x32x16 : Shape := ⟨4, ![3, 3, 32, 16]⟩
abbrev S16 : Shape := ⟨1, ![16]⟩
abbrev S5x2x16x16 : Shape := ⟨4, ![5, 2, 16, 16]⟩
abbrev S3x3x16x8 : Shape := ⟨4, ![3, 3, 16, 8]⟩
abbrev S8 : Shape := ⟨1, ![8]⟩
abbrev S2x2x8x8 : Shape := ⟨4, ![2, 2, 8, 8]⟩
abbrev S3x3x8x6 : Shape := ⟨4, ![3, 3, 8, 6]⟩
abbrev S6 : Shape := ⟨1, ![6]⟩
abbrev S_ : Shape := ⟨0, ![]⟩

class Facts : Prop where
  bcast_S_S1024x4 : S_.BroadcastsInDim S1024x4 (![] : Fin 0 → Fin S1024x4.rank)
  reducesTo_S1024x4_S_d0_1 : S1024x4.ReducesTo [0, 1] S_
  h_S_ : 0 < S_.numel
  bcast_S_S256x4 : S_.BroadcastsInDim S256x4 (![] : Fin 0 → Fin S256x4.rank)
  reducesTo_S256x4_S_d0_1 : S256x4.ReducesTo [0, 1] S_
  bcast_S_S256 : S_.BroadcastsInDim S256 (![] : Fin 0 → Fin S256.rank)
  reducesTo_S256_S_d0 : S256.ReducesTo [0] S_
  bcast_S_S5x2x32x32 : S_.BroadcastsInDim S5x2x32x32 (![] : Fin 0 → Fin S5x2x32x32.rank)
  reducesTo_S5x2x32x32_S_d0_1_2_3 : S5x2x32x32.ReducesTo [0, 1, 2, 3] S_
  bcast_S_S32 : S_.BroadcastsInDim S32 (![] : Fin 0 → Fin S32.rank)
  reducesTo_S32_S_d0 : S32.ReducesTo [0] S_
  bcast_S_S3x3x32x16 : S_.BroadcastsInDim S3x3x32x16 (![] : Fin 0 → Fin S3x3x32x16.rank)
  reducesTo_S3x3x32x16_S_d0_1_2_3 : S3x3x32x16.ReducesTo [0, 1, 2, 3] S_
  bcast_S_S16 : S_.BroadcastsInDim S16 (![] : Fin 0 → Fin S16.rank)
  reducesTo_S16_S_d0 : S16.ReducesTo [0] S_
  bcast_S_S5x2x16x16 : S_.BroadcastsInDim S5x2x16x16 (![] : Fin 0 → Fin S5x2x16x16.rank)
  reducesTo_S5x2x16x16_S_d0_1_2_3 : S5x2x16x16.ReducesTo [0, 1, 2, 3] S_
  bcast_S_S3x3x16x8 : S_.BroadcastsInDim S3x3x16x8 (![] : Fin 0 → Fin S3x3x16x8.rank)
  reducesTo_S3x3x16x8_S_d0_1_2_3 : S3x3x16x8.ReducesTo [0, 1, 2, 3] S_
  bcast_S_S8 : S_.BroadcastsInDim S8 (![] : Fin 0 → Fin S8.rank)
  reducesTo_S8_S_d0 : S8.ReducesTo [0] S_
  bcast_S_S2x2x8x8 : S_.BroadcastsInDim S2x2x8x8 (![] : Fin 0 → Fin S2x2x8x8.rank)
  reducesTo_S2x2x8x8_S_d0_1_2_3 : S2x2x8x8.ReducesTo [0, 1, 2, 3] S_
  bcast_S_S3x3x8x6 : S_.BroadcastsInDim S3x3x8x6 (![] : Fin 0 → Fin S3x3x8x6.rank)
  reducesTo_S3x3x8x6_S_d0_1_2_3 : S3x3x8x6.ReducesTo [0, 1, 2, 3] S_
  bcast_S_S6 : S_.BroadcastsInDim S6 (![] : Fin 0 → Fin S6.rank)
  reducesTo_S6_S_d0 : S6.ReducesTo [0] S_

variable [Facts]

def fn_part4 {F : FTy → Type} [FloatOps F] (main_arg14 : FVec F S6 .f32) (main_v64 : IVec S_ 1) (main_v67 : IVec S3x3x8x6 1) : IVec S_ 1 :=
  let main_c_26 : IVec S_ 1 := constantI S_ 1 1#1
  let main_v68 : IVec S_ 1 := (fun x v => Host.reduce IntOp.andi x v reducesTo_S3x3x8x6_S_d0_1_2_3 h_S_) main_v67 main_c_26
  let main_v69 : IVec S_ 1 := andi main_v64 main_v68
  let main_v70 : FVec F S6 .f32 := Host.absf main_arg14
  let main_cst_27 : FVec F S_ .f32 := constant S_ .f32 0x7F800000#32
  let main_v71 : FVec F S6 .f32 := broadcastInDim S6 ![] bcast_S_S6 main_cst_27
  let main_v72 : IVec S6 1 := cmpf .olt main_v70 main_v71
  let main_c_28 : IVec S_ 1 := constantI S_ 1 1#1
  let main_v73 : IVec S_ 1 := (fun x v => Host.reduce IntOp.andi x v reducesTo_S6_S_d0 h_S_) main_v72 main_c_28
  let main_v74 : IVec S_ 1 := andi main_v69 main_v73
  main_v74

def fn_part3 {F : FTy → Type} [FloatOps F] (main_arg11 : FVec F S2x2x8x8 .f32) (main_arg12 : FVec F S8 .f32) (main_arg13 : FVec F S3x3x8x6 .f32) (main_arg14 : FVec F S6 .f32) (main_v49 : IVec S_ 1) (main_v50 : FVec F S8 .f32) : IVec S_ 1 :=
  let main_cst_19 : FVec F S_ .f32 := constant S_ .f32 0x7F800000#32
  let main_v51 : FVec F S8 .f32 := broadcastInDim S8 ![] bcast_S_S8 main_cst_19
  let main_v52 : IVec S8 1 := cmpf .olt main_v50 main_v51
  let main_c_20 : IVec S_ 1 := constantI S_ 1 1#1
  let main_v53 : IVec S_ 1 := (fun x v => Host.reduce IntOp.andi x v reducesTo_S8_S_d0 h_S_) main_v52 main_c_20
  let main_v54 : IVec S_ 1 := andi main_v49 main_v53
  let main_v55 : FVec F S2x2x8x8 .f32 := Host.absf main_arg11
  let main_cst_21 : FVec F S_ .f32 := constant S_ .f32 0x7F800000#32
  let main_v56 : FVec F S2x2x8x8 .f32 := broadcastInDim S2x2x8x8 ![] bcast_S_S2x2x8x8 main_cst_21
  let main_v57 : IVec S2x2x8x8 1 := cmpf .olt main_v55 main_v56
  let main_c_22 : IVec S_ 1 := constantI S_ 1 1#1
  let main_v58 : IVec S_ 1 := (fun x v => Host.reduce IntOp.andi x v reducesTo_S2x2x8x8_S_d0_1_2_3 h_S_) main_v57 main_c_22
  let main_v59 : IVec S_ 1 := andi main_v54 main_v58
  let main_v60 : FVec F S8 .f32 := Host.absf main_arg12
  let main_cst_23 : FVec F S_ .f32 := constant S_ .f32 0x7F800000#32
  let main_v61 : FVec F S8 .f32 := broadcastInDim S8 ![] bcast_S_S8 main_cst_23
  let main_v62 : IVec S8 1 := cmpf .olt main_v60 main_v61
  let main_c_24 : IVec S_ 1 := constantI S_ 1 1#1
  let main_v63 : IVec S_ 1 := (fun x v => Host.reduce IntOp.andi x v reducesTo_S8_S_d0 h_S_) main_v62 main_c_24
  let main_v64 : IVec S_ 1 := andi main_v59 main_v63
  let main_v65 : FVec F S3x3x8x6 .f32 := Host.absf main_arg13
  let main_cst_25 : FVec F S_ .f32 := constant S_ .f32 0x7F800000#32
  let main_v66 : FVec F S3x3x8x6 .f32 := broadcastInDim S3x3x8x6 ![] bcast_S_S3x3x8x6 main_cst_25
  let main_v67 : IVec S3x3x8x6 1 := cmpf .olt main_v65 main_v66
  fn_part4 (F := F) main_arg14 main_v64 main_v67

def fn_part2 {F : FTy → Type} [FloatOps F] (main_arg7 : FVec F S5x2x16x16 .f32) (main_arg8 : FVec F S16 .f32) (main_arg9 : FVec F S3x3x16x8 .f32) (main_arg10 : FVec F S8 .f32) (main_arg11 : FVec F S2x2x8x8 .f32) (main_arg12 : FVec F S8 .f32) (main_arg13 : FVec F S3x3x8x6 .f32) (main_arg14 : FVec F S6 .f32) (main_v29 : IVec S_ 1) (main_v32 : IVec S16 1) (main_c_12 : IVec S_ 1) : IVec S_ 1 :=
  let main_v33 : IVec S_ 1 := (fun x v => Host.reduce IntOp.andi x v reducesTo_S16_S_d0 h_S_) main_v32 main_c_12
  let main_v34 : IVec S_ 1 := andi main_v29 main_v33
  let main_v35 : FVec F S5x2x16x16 .f32 := Host.absf main_arg7
  let main_cst_13 : FVec F S_ .f32 := constant S_ .f32 0x7F800000#32
  let main_v36 : FVec F S5x2x16x16 .f32 := broadcastInDim S5x2x16x16 ![] bcast_S_S5x2x16x16 main_cst_13
  let main_v37 : IVec S5x2x16x16 1 := cmpf .olt main_v35 main_v36
  let main_c_14 : IVec S_ 1 := constantI S_ 1 1#1
  let main_v38 : IVec S_ 1 := (fun x v => Host.reduce IntOp.andi x v reducesTo_S5x2x16x16_S_d0_1_2_3 h_S_) main_v37 main_c_14
  let main_v39 : IVec S_ 1 := andi main_v34 main_v38
  let main_v40 : FVec F S16 .f32 := Host.absf main_arg8
  let main_cst_15 : FVec F S_ .f32 := constant S_ .f32 0x7F800000#32
  let main_v41 : FVec F S16 .f32 := broadcastInDim S16 ![] bcast_S_S16 main_cst_15
  let main_v42 : IVec S16 1 := cmpf .olt main_v40 main_v41
  let main_c_16 : IVec S_ 1 := constantI S_ 1 1#1
  let main_v43 : IVec S_ 1 := (fun x v => Host.reduce IntOp.andi x v reducesTo_S16_S_d0 h_S_) main_v42 main_c_16
  let main_v44 : IVec S_ 1 := andi main_v39 main_v43
  let main_v45 : FVec F S3x3x16x8 .f32 := Host.absf main_arg9
  let main_cst_17 : FVec F S_ .f32 := constant S_ .f32 0x7F800000#32
  let main_v46 : FVec F S3x3x16x8 .f32 := broadcastInDim S3x3x16x8 ![] bcast_S_S3x3x16x8 main_cst_17
  let main_v47 : IVec S3x3x16x8 1 := cmpf .olt main_v45 main_v46
  let main_c_18 : IVec S_ 1 := constantI S_ 1 1#1
  let main_v48 : IVec S_ 1 := (fun x v => Host.reduce IntOp.andi x v reducesTo_S3x3x16x8_S_d0_1_2_3 h_S_) main_v47 main_c_18
  let main_v49 : IVec S_ 1 := andi main_v44 main_v48
  let main_v50 : FVec F S8 .f32 := Host.absf main_arg10
  fn_part3 (F := F) main_arg11 main_arg12 main_arg13 main_arg14 main_v49 main_v50

def fn_part1 {F : FTy → Type} [FloatOps F] (main_arg4 : FVec F S32 .f32) (main_arg5 : FVec F S3x3x32x16 .f32) (main_arg6 : FVec F S16 .f32) (main_arg7 : FVec F S5x2x16x16 .f32) (main_arg8 : FVec F S16 .f32) (main_arg9 : FVec F S3x3x16x8 .f32) (main_arg10 : FVec F S8 .f32) (main_arg11 : FVec F S2x2x8x8 .f32) (main_arg12 : FVec F S8 .f32) (main_arg13 : FVec F S3x3x8x6 .f32) (main_arg14 : FVec F S6 .f32) (main_v14 : IVec S_ 1) (main_v15 : FVec F S5x2x32x32 .f32) (main_cst_5 : FVec F S_ .f32) : IVec S_ 1 :=
  let main_v16 : FVec F S5x2x32x32 .f32 := broadcastInDim S5x2x32x32 ![] bcast_S_S5x2x32x32 main_cst_5
  let main_v17 : IVec S5x2x32x32 1 := cmpf .olt main_v15 main_v16
  let main_c_6 : IVec S_ 1 := constantI S_ 1 1#1
  let main_v18 : IVec S_ 1 := (fun x v => Host.reduce IntOp.andi x v reducesTo_S5x2x32x32_S_d0_1_2_3 h_S_) main_v17 main_c_6
  let main_v19 : IVec S_ 1 := andi main_v14 main_v18
  let main_v20 : FVec F S32 .f32 := Host.absf main_arg4
  let main_cst_7 : FVec F S_ .f32 := constant S_ .f32 0x7F800000#32
  let main_v21 : FVec F S32 .f32 := broadcastInDim S32 ![] bcast_S_S32 main_cst_7
  let main_v22 : IVec S32 1 := cmpf .olt main_v20 main_v21
  let main_c_8 : IVec S_ 1 := constantI S_ 1 1#1
  let main_v23 : IVec S_ 1 := (fun x v => Host.reduce IntOp.andi x v reducesTo_S32_S_d0 h_S_) main_v22 main_c_8
  let main_v24 : IVec S_ 1 := andi main_v19 main_v23
  let main_v25 : FVec F S3x3x32x16 .f32 := Host.absf main_arg5
  let main_cst_9 : FVec F S_ .f32 := constant S_ .f32 0x7F800000#32
  let main_v26 : FVec F S3x3x32x16 .f32 := broadcastInDim S3x3x32x16 ![] bcast_S_S3x3x32x16 main_cst_9
  let main_v27 : IVec S3x3x32x16 1 := cmpf .olt main_v25 main_v26
  let main_c_10 : IVec S_ 1 := constantI S_ 1 1#1
  let main_v28 : IVec S_ 1 := (fun x v => Host.reduce IntOp.andi x v reducesTo_S3x3x32x16_S_d0_1_2_3 h_S_) main_v27 main_c_10
  let main_v29 : IVec S_ 1 := andi main_v24 main_v28
  let main_v30 : FVec F S16 .f32 := Host.absf main_arg6
  let main_cst_11 : FVec F S_ .f32 := constant S_ .f32 0x7F800000#32
  let main_v31 : FVec F S16 .f32 := broadcastInDim S16 ![] bcast_S_S16 main_cst_11
  let main_v32 : IVec S16 1 := cmpf .olt main_v30 main_v31
  let main_c_12 : IVec S_ 1 := constantI S_ 1 1#1
  fn_part2 (F := F) main_arg7 main_arg8 main_arg9 main_arg10 main_arg11 main_arg12 main_arg13 main_arg14 main_v29 main_v32 main_c_12

def fn {F : FTy → Type} [FloatOps F] (main_arg0 : FVec F S1024x4 .f32) (main_arg1 : FVec F S256x4 .f32) (main_arg2 : FVec F S256 .f32) (main_arg3 : FVec F S5x2x32x32 .f32) (main_arg4 : FVec F S32 .f32) (main_arg5 : FVec F S3x3x32x16 .f32) (main_arg6 : FVec F S16 .f32) (main_arg7 : FVec F S5x2x16x16 .f32) (main_arg8 : FVec F S16 .f32) (main_arg9 : FVec F S3x3x16x8 .f32) (main_arg10 : FVec F S8 .f32) (main_arg11 : FVec F S2x2x8x8 .f32) (main_arg12 : FVec F S8 .f32) (main_arg13 : FVec F S3x3x8x6 .f32) (main_arg14 : FVec F S6 .f32) : IVec S_ 1 :=
  let main_v0 : FVec F S1024x4 .f32 := Host.absf main_arg0
  let main_cst : FVec F S_ .f32 := constant S_ .f32 0x7F800000#32
  let main_v1 : FVec F S1024x4 .f32 := broadcastInDim S1024x4 ![] bcast_S_S1024x4 main_cst
  let main_v2 : IVec S1024x4 1 := cmpf .olt main_v0 main_v1
  let main_c : IVec S_ 1 := constantI S_ 1 1#1
  let main_v3 : IVec S_ 1 := (fun x v => Host.reduce IntOp.andi x v reducesTo_S1024x4_S_d0_1 h_S_) main_v2 main_c
  let main_c_0 : IVec S_ 1 := constantI S_ 1 1#1
  let main_v4 : IVec S_ 1 := andi main_c_0 main_v3
  let main_v5 : FVec F S256x4 .f32 := Host.absf main_arg1
  let main_cst_1 : FVec F S_ .f32 := constant S_ .f32 0x7F800000#32
  let main_v6 : FVec F S256x4 .f32 := broadcastInDim S256x4 ![] bcast_S_S256x4 main_cst_1
  let main_v7 : IVec S256x4 1 := cmpf .olt main_v5 main_v6
  let main_c_2 : IVec S_ 1 := constantI S_ 1 1#1
  let main_v8 : IVec S_ 1 := (fun x v => Host.reduce IntOp.andi x v reducesTo_S256x4_S_d0_1 h_S_) main_v7 main_c_2
  let main_v9 : IVec S_ 1 := andi main_v4 main_v8
  let main_v10 : FVec F S256 .f32 := Host.absf main_arg2
  let main_cst_3 : FVec F S_ .f32 := constant S_ .f32 0x7F800000#32
  let main_v11 : FVec F S256 .f32 := broadcastInDim S256 ![] bcast_S_S256 main_cst_3
  let main_v12 : IVec S256 1 := cmpf .olt main_v10 main_v11
  let main_c_4 : IVec S_ 1 := constantI S_ 1 1#1
  let main_v13 : IVec S_ 1 := (fun x v => Host.reduce IntOp.andi x v reducesTo_S256_S_d0 h_S_) main_v12 main_c_4
  let main_v14 : IVec S_ 1 := andi main_v9 main_v13
  let main_v15 : FVec F S5x2x32x32 .f32 := Host.absf main_arg3
  let main_cst_5 : FVec F S_ .f32 := constant S_ .f32 0x7F800000#32
  fn_part1 (F := F) main_arg4 main_arg5 main_arg6 main_arg7 main_arg8 main_arg9 main_arg10 main_arg11 main_arg12 main_arg13 main_arg14 main_v14 main_v15 main_cst_5
-- ==== Kernel.lean ====
abbrev S1024x4 : Shape := ⟨2, ![1024, 4]⟩
abbrev S256x4 : Shape := ⟨2, ![256, 4]⟩
abbrev S256 : Shape := ⟨1, ![256]⟩
abbrev S5x2x32x32 : Shape := ⟨4, ![5, 2, 32, 32]⟩
abbrev S32 : Shape := ⟨1, ![32]⟩
abbrev S3x3x32x16 : Shape := ⟨4, ![3, 3, 32, 16]⟩
abbrev S16 : Shape := ⟨1, ![16]⟩
abbrev S5x2x16x16 : Shape := ⟨4, ![5, 2, 16, 16]⟩
abbrev S3x3x16x8 : Shape := ⟨4, ![3, 3, 16, 8]⟩
abbrev S8 : Shape := ⟨1, ![8]⟩
abbrev S2x2x8x8 : Shape := ⟨4, ![2, 2, 8, 8]⟩
abbrev S3x3x8x6 : Shape := ⟨4, ![3, 3, 8, 6]⟩
abbrev S6 : Shape := ⟨1, ![6]⟩
abbrev S5x3x3x5 : Shape := ⟨4, ![5, 3, 3, 5]⟩
abbrev S5x3x3x5x1x1x1x1 : Shape := ⟨8, ![5, 3, 3, 5, 1, 1, 1, 1]⟩
abbrev S2x3x3x2 : Shape := ⟨4, ![2, 3, 3, 2]⟩
abbrev S2x3x1x3x1x2x1x1 : Shape := ⟨8, ![2, 3, 1, 3, 1, 2, 1, 1]⟩
abbrev S3x2x1x1x8x1x16x1 : Shape := ⟨8, ![3, 2, 1, 1, 8, 1, 16, 1]⟩
abbrev S5x1x3x1x1 : Shape := ⟨5, ![5, 1, 3, 1, 1]⟩
abbrev S1x16x1x3x1 : Shape := ⟨5, ![1, 16, 1, 3, 1]⟩
abbrev S3x2x1x1x16x1x32x1 : Shape := ⟨8, ![3, 2, 1, 1, 16, 1, 32, 1]⟩
abbrev S25x1x3x1x1 : Shape := ⟨5, ![25, 1, 3, 1, 1]⟩
abbrev S1x32x1x3x1 : Shape := ⟨5, ![1, 32, 1, 3, 1]⟩
abbrev S2x3x3x2x1x1x1x1 : Shape := ⟨8, ![2, 3, 3, 2, 1, 1, 1, 1]⟩
abbrev S3x2x1x1x32x1x1x64 : Shape := ⟨8, ![3, 2, 1, 1, 32, 1, 1, 64]⟩
abbrev S50x1x3x1x1 : Shape := ⟨5, ![50, 1, 3, 1, 1]⟩
abbrev S1x64x1x3x1 : Shape := ⟨5, ![1, 64, 1, 3, 1]⟩
abbrev S4x256 : Shape := ⟨2, ![4, 256]⟩
abbrev S_ : Shape := ⟨0, ![]⟩
abbrev S256x1 : Shape := ⟨2, ![256, 1]⟩
abbrev S1x256 : Shape := ⟨2, ![1, 256]⟩
abbrev S3x3x16x5x2x32 : Shape := ⟨6, ![3, 3, 16, 5, 2, 32]⟩
abbrev S5x3x2x3x32x16 : Shape := ⟨6, ![5, 3, 2, 3, 32, 16]⟩
abbrev S5x3x1x1x2x3x32x16 : Shape := ⟨8, ![5, 3, 1, 1, 2, 3, 32, 16]⟩
abbrev S5x3x3x5x2x3x32x16 : Shape := ⟨8, ![5, 3, 3, 5, 2, 3, 32, 16]⟩
abbrev S3x5x2x3x32x16 : Shape := ⟨6, ![3, 5, 2, 3, 32, 16]⟩
abbrev S2x3x3x5x32x16 : Shape := ⟨6, ![2, 3, 3, 5, 32, 16]⟩
abbrev S2x3x3x1x5x1x32x16 : Shape := ⟨8, ![2, 3, 3, 1, 5, 1, 32, 16]⟩
abbrev S2x3x3x3x5x2x32x16 : Shape := ⟨8, ![2, 3, 3, 3, 5, 2, 32, 16]⟩
abbrev S3x3x5x2x32x16 : Shape := ⟨6, ![3, 3, 5, 2, 32, 16]⟩
abbrev S3x2x3x5x32x16 : Shape := ⟨6, ![3, 2, 3, 5, 32, 16]⟩
abbrev S3x2x3x5x1x32x1x16 : Shape := ⟨8, ![3, 2, 3, 5, 1, 32, 1, 16]⟩
abbrev S3x2x3x5x8x32x16x16 : Shape := ⟨8, ![3, 2, 3, 5, 8, 32, 16, 16]⟩
abbrev S3x5x8x32x16x16 : Shape := ⟨6, ![3, 5, 8, 32, 16, 16]⟩
abbrev S3x5x256x256 : Shape := ⟨4, ![3, 5, 256, 256]⟩
abbrev S1x5x256x256 : Shape := ⟨4, ![1, 5, 256, 256]⟩
abbrev S5x256x256 : Shape := ⟨3, ![5, 256, 256]⟩
abbrev S3x3x16 : Shape := ⟨3, ![3, 3, 16]⟩
abbrev S1x1x16 : Shape := ⟨3, ![1, 1, 16]⟩
abbrev S1x1x3x3x16 : Shape := ⟨5, ![1, 1, 3, 3, 16]⟩
abbrev S5x1x3x3x16 : Shape := ⟨5, ![5, 1, 3, 3, 16]⟩
abbrev S5x16x3x3x16 : Shape := ⟨5, ![5, 16, 3, 3, 16]⟩
abbrev S5x16x16 : Shape := ⟨3, ![5, 16, 16]⟩
abbrev S5x1x256 : Shape := ⟨3, ![5, 1, 256]⟩
abbrev S3x3x8x5x2x16 : Shape := ⟨6, ![3, 3, 8, 5, 2, 16]⟩
abbrev S5x3x2x3x16x8 : Shape := ⟨6, ![5, 3, 2, 3, 16, 8]⟩
abbrev S5x3x1x1x2x3x16x8 : Shape := ⟨8, ![5, 3, 1, 1, 2, 3, 16, 8]⟩
abbrev S5x3x3x5x2x3x16x8 : Shape := ⟨8, ![5, 3, 3, 5, 2, 3, 16, 8]⟩
abbrev S3x5x2x3x16x8 : Shape := ⟨6, ![3, 5, 2, 3, 16, 8]⟩
abbrev S2x3x3x5x16x8 : Shape := ⟨6, ![2, 3, 3, 5, 16, 8]⟩
abbrev S2x3x3x1x5x1x16x8 : Shape := ⟨8, ![2, 3, 3, 1, 5, 1, 16, 8]⟩
abbrev S2x3x3x3x5x2x16x8 : Shape := ⟨8, ![2, 3, 3, 3, 5, 2, 16, 8]⟩
abbrev S3x3x5x2x16x8 : Shape := ⟨6, ![3, 3, 5, 2, 16, 8]⟩
abbrev S3x2x3x5x16x8 : Shape := ⟨6, ![3, 2, 3, 5, 16, 8]⟩
abbrev S3x2x3x5x1x16x1x8 : Shape := ⟨8, ![3, 2, 3, 5, 1, 16, 1, 8]⟩
abbrev S3x2x3x5x16x16x32x8 : Shape := ⟨8, ![3, 2, 3, 5, 16, 16, 32, 8]⟩
abbrev S3x5x16x16x32x8 : Shape := ⟨6, ![3, 5, 16, 16, 32, 8]⟩
abbrev S3x3x8 : Shape := ⟨3, ![3, 3, 8]⟩
abbrev S1x1x8 : Shape := ⟨3, ![1, 1, 8]⟩
abbrev S1x1x3x3x8 : Shape := ⟨5, ![1, 1, 3, 3, 8]⟩
abbrev S25x1x3x3x8 : Shape := ⟨5, ![25, 1, 3, 3, 8]⟩
abbrev S25x32x3x3x8 : Shape := ⟨5, ![25, 32, 3, 3, 8]⟩
abbrev S25x32x8 : Shape := ⟨3, ![25, 32, 8]⟩
abbrev S25x1x256 : Shape := ⟨3, ![25, 1, 256]⟩
abbrev S3x3x6x2x2x8 : Shape := ⟨6, ![3, 3, 6, 2, 2, 8]⟩
abbrev S2x3x2x3x8x6 : Shape := ⟨6, ![2, 3, 2, 3, 8, 6]⟩
abbrev S2x3x1x1x2x3x8x6 : Shape := ⟨8, ![2, 3, 1, 1, 2, 3, 8, 6]⟩
abbrev S2x3x3x2x2x3x8x6 : Shape := ⟨8, ![2, 3, 3, 2, 2, 3, 8, 6]⟩
abbrev S3x2x2x3x8x6 : Shape := ⟨6, ![3, 2, 2, 3, 8, 6]⟩
abbrev S2x3x3x2x8x6 : Shape := ⟨6, ![2, 3, 3, 2, 8, 6]⟩
abbrev S2x3x3x1x2x1x8x6 : Shape := ⟨8, ![2, 3, 3, 1, 2, 1, 8, 6]⟩
abbrev S2x3x3x3x2x2x8x6 : Shape := ⟨8, ![2, 3, 3, 3, 2, 2, 8, 6]⟩
abbrev S3x3x2x2x8x6 : Shape := ⟨6, ![3, 3, 2, 2, 8, 6]⟩
abbrev S3x2x3x2x8x6 : Shape := ⟨6, ![3, 2, 3, 2, 8, 6]⟩
abbrev S3x2x3x2x1x8x6x1 : Shape := ⟨8, ![3, 2, 3, 2, 1, 8, 6, 1]⟩
abbrev S3x2x3x2x32x8x6x64 : Shape := ⟨8, ![3, 2, 3, 2, 32, 8, 6, 64]⟩
abbrev S3x2x32x8x6x64 : Shape := ⟨6, ![3, 2, 32, 8, 6, 64]⟩
abbrev S3x2x256x384 : Shape := ⟨4, ![3, 2, 256, 384]⟩
abbrev S3x3x6 : Shape := ⟨3, ![3, 3, 6]⟩
abbrev S1x1x6 : Shape := ⟨3, ![1, 1, 6]⟩
abbrev S1x1x3x3x6 : Shape := ⟨5, ![1, 1, 3, 3, 6]⟩
abbrev S50x1x3x3x6 : Shape := ⟨5, ![50, 1, 3, 3, 6]⟩
abbrev S50x64x3x3x6 : Shape := ⟨5, ![50, 64, 3, 3, 6]⟩
abbrev S50x64x6 : Shape := ⟨3, ![50, 64, 6]⟩
abbrev S50x6x64 : Shape := ⟨3, ![50, 6, 64]⟩
abbrev S50x1x384 : Shape := ⟨3, ![50, 1, 384]⟩
abbrev S50x1024x384 : Shape := ⟨3, ![50, 1024, 384]⟩
abbrev S128x4 : Shape := ⟨2, ![128, 4]⟩
abbrev S50x128x384 : Shape := ⟨3, ![50, 128, 384]⟩
abbrev S7x128x256 : Shape := ⟨3, ![7, 128, 256]⟩
abbrev S27x128x256 : Shape := ⟨3, ![27, 128, 256]⟩
abbrev S128x256 : Shape := ⟨2, ![128, 256]⟩
abbrev S1x128x256 : Shape := ⟨3, ![1, 128, 256]⟩
abbrev S1x256x256 : Shape := ⟨3, ![1, 256, 256]⟩
abbrev S256x256 : Shape := ⟨2, ![256, 256]⟩
abbrev S1x1x256 : Shape := ⟨3, ![1, 1, 256]⟩
abbrev S5x128x256 : Shape := ⟨3, ![5, 128, 256]⟩
abbrev S640x256 : Shape := ⟨2, ![640, 256]⟩
abbrev S1x1x256x256 : Shape := ⟨4, ![1, 1, 256, 256]⟩
abbrev S25x128x256 : Shape := ⟨3, ![25, 128, 256]⟩
abbrev S3200x256 : Shape := ⟨2, ![3200, 256]⟩
abbrev S1x1x256x384 : Shape := ⟨4, ![1, 1, 256, 384]⟩
abbrev S256x384 : Shape := ⟨2, ![256, 384]⟩
abbrev S3200x384 : Shape := ⟨2, ![3200, 384]⟩
abbrev S25x128x384 : Shape := ⟨3, ![25, 128, 384]⟩
abbrev S1x128x384 : Shape := ⟨3, ![1, 128, 384]⟩
abbrev S128x384 : Shape := ⟨2, ![128, 384]⟩
abbrev S1x1x384 : Shape := ⟨3, ![1, 1, 384]⟩
abbrev S1x384 : Shape := ⟨2, ![1, 384]⟩
abbrev S50x1024x6x64 : Shape := ⟨4, ![50, 1024, 6, 64]⟩
abbrev S1024x6x50x64 : Shape := ⟨4, ![1024, 6, 50, 64]⟩

abbrev nBuf : Space → Nat
  | .hbm => 178
  | .vmem => 14
  | .smem => 0
  | _ => 0

abbrev hbmTy0_0 (i : Nat) : BufTy := match i % 128 with
  | 0 => ⟨S1024x4, .f32⟩
  | 1 => ⟨S256x4, .f32⟩
  | 2 => ⟨S256, .f32⟩
  | 3 => ⟨S5x2x32x32, .f32⟩
  | 4 => ⟨S32, .f32⟩
  | 5 => ⟨S3x3x32x16, .f32⟩
  | 6 => ⟨S16, .f32⟩
  | 7 => ⟨S5x2x16x16, .f32⟩
  | 8 => ⟨S16, .f32⟩
  | 9 => ⟨S3x3x16x8, .f32⟩
  | 10 => ⟨S8, .f32⟩
  | 11 => ⟨S2x2x8x8, .f32⟩
  | 12 => ⟨S8, .f32⟩
  | 13 => ⟨S3x3x8x6, .f32⟩
  | 14 => ⟨S6, .f32⟩
  | 15 => ⟨S256, .i32⟩
  | 16 => ⟨S256, .i1⟩
  | 17 => ⟨S256, .i1⟩
  | 18 => ⟨S5x3x3x5, .f32⟩
  | 19 => ⟨S5x3x3x5x1x1x1x1, .f32⟩
  | 20 => ⟨S2x3x3x2, .f32⟩
  | 21 => ⟨S2x3x1x3x1x2x1x1, .f32⟩
  | 22 => ⟨S3x2x1x1x8x1x16x1, .f32⟩
  | 23 => ⟨S5x1x3x1x1, .f32⟩
  | 24 => ⟨S1x16x1x3x1, .f32⟩
  | 25 => ⟨S5x3x3x5, .f32⟩
  | 26 => ⟨S5x3x3x5x1x1x1x1, .f32⟩
  | 27 => ⟨S2x3x3x2, .f32⟩
  | 28 => ⟨S2x3x1x3x1x2x1x1, .f32⟩
  | 29 => ⟨S3x2x1x1x16x1x32x1, .f32⟩
  | 30 => ⟨S25x1x3x1x1, .f32⟩
  | 31 => ⟨S1x32x1x3x1, .f32⟩
  | 32 => ⟨S2x3x3x2, .f32⟩
  | 33 => ⟨S2x3x3x2x1x1x1x1, .f32⟩
  | 34 => ⟨S2x3x3x2, .f32⟩
  | 35 => ⟨S2x3x1x3x1x2x1x1, .f32⟩
  | 36 => ⟨S3x2x1x1x32x1x1x64, .f32⟩
  | 37 => ⟨S50x1x3x1x1, .f32⟩
  | 38 => ⟨S1x64x1x3x1, .f32⟩
  | 39 => ⟨S4x256, .f32⟩
  | 40 => ⟨S_, .i32⟩
  | 41 => ⟨S256, .i32⟩
  | 42 => ⟨S256, .i32⟩
  | 43 => ⟨S256, .i32⟩
  | 44 => ⟨S256x1, .i32⟩
  | 45 => ⟨S4x256, .f32⟩
  | 46 => ⟨S4x256, .bf16⟩
  | 47 => ⟨S_, .i32⟩
  | 48 => ⟨S256, .i32⟩
  | 49 => ⟨S256, .i32⟩
  | 50 => ⟨S256, .i32⟩
  | 51 => ⟨S256x1, .i32⟩
  | 52 => ⟨S256, .f32⟩
  | 53 => ⟨S1x256, .f32⟩
  | 54 => ⟨S5x2x32x32, .f32⟩
  | 55 => ⟨S3x3x16x5x2x32, .f32⟩
  | 56 => ⟨S5x3x2x3x32x16, .f32⟩
  | 57 => ⟨S5x3x1x1x2x3x32x16, .f32⟩
  | 58 => ⟨S5x3x3x5x2x3x32x16, .f32⟩
  | 59 => ⟨S5x3x3x5x2x3x32x16, .f32⟩
  | 60 => ⟨S5x3x3x5x2x3x32x16, .f32⟩
  | 61 => ⟨S_, .f32⟩
  | 62 => ⟨S3x5x2x3x32x16, .f32⟩
  | 63 => ⟨S2x3x3x5x32x16, .f32⟩
  | 64 => ⟨S2x3x3x1x5x1x32x16, .f32⟩
  | 65 => ⟨S2x3x3x3x5x2x32x16, .f32⟩
  | 66 => ⟨S2x3x3x3x5x2x32x16, .f32⟩
  | 67 => ⟨S2x3x3x3x5x2x32x16, .f32⟩
  | 68 => ⟨S_, .f32⟩
  | 69 => ⟨S3x3x5x2x32x16, .f32⟩
  | 70 => ⟨S3x2x3x5x32x16, .f32⟩
  | 71 => ⟨S3x2x3x5x1x32x1x16, .f32⟩
  | 72 => ⟨S3x2x3x5x8x32x16x16, .f32⟩
  | 73 => ⟨S3x2x3x5x8x32x16x16, .f32⟩
  | 74 => ⟨S3x2x3x5x8x32x16x16, .f32⟩
  | 75 => ⟨S_, .f32⟩
  | 76 => ⟨S3x5x8x32x16x16, .f32⟩
  | 77 => ⟨S3x5x256x256, .f32⟩
  | 78 => ⟨S1x5x256x256, .f32⟩
  | 79 => ⟨S5x256x256, .f32⟩
  | 80 => ⟨S5x256x256, .bf16⟩
  | 81 => ⟨S3x3x16, .f32⟩
  | 82 => ⟨S1x1x16, .f32⟩
  | 83 => ⟨S1x1x3x3x16, .f32⟩
  | 84 => ⟨S5x1x3x3x16, .f32⟩
  | 85 => ⟨S5x1x3x3x16, .f32⟩
  | 86 => ⟨S5x1x3x3x16, .f32⟩
  | 87 => ⟨S5x16x3x3x16, .f32⟩
  | 88 => ⟨S5x16x3x3x16, .f32⟩
  | 89 => ⟨S5x16x3x3x16, .f32⟩
  | 90 => ⟨S_, .f32⟩
  | 91 => ⟨S5x16x16, .f32⟩
  | 92 => ⟨S5x16x16, .f32⟩
  | 93 => ⟨S5x16x16, .f32⟩
  | 94 => ⟨S5x1x256, .f32⟩
  | 95 => ⟨S5x2x16x16, .f32⟩
  | 96 => ⟨S3x3x8x5x2x16, .f32⟩
  | 97 => ⟨S5x3x2x3x16x8, .f32⟩
  | 98 => ⟨S5x3x1x1x2x3x16x8, .f32⟩
  | 99 => ⟨S5x3x3x5x2x3x16x8, .f32⟩
  | 100 => ⟨S5x3x3x5x2x3x16x8, .f32⟩
  | 101 => ⟨S5x3x3x5x2x3x16x8, .f32⟩
  | 102 => ⟨S_, .f32⟩
  | 103 => ⟨S3x5x2x3x16x8, .f32⟩
  | 104 => ⟨S2x3x3x5x16x8, .f32⟩
  | 105 => ⟨S2x3x3x1x5x1x16x8, .f32⟩
  | 106 => ⟨S2x3x3x3x5x2x16x8, .f32⟩
  | 107 => ⟨S2x3x3x3x5x2x16x8, .f32⟩
  | 108 => ⟨S2x3x3x3x5x2x16x8, .f32⟩
  | 109 => ⟨S_, .f32⟩
  | 110 => ⟨S3x3x5x2x16x8, .f32⟩
  | 111 => ⟨S3x2x3x5x16x8, .f32⟩
  | 112 => ⟨S3x2x3x5x1x16x1x8, .f32⟩
  | 113 => ⟨S3x2x3x5x16x16x32x8, .f32⟩
  | 114 => ⟨S3x2x3x5x16x16x32x8, .f32⟩
  | 115 => ⟨S3x2x3x5x16x16x32x8, .f32⟩
  | 116 => ⟨S_, .f32⟩
  | 117 => ⟨S3x5x16x16x32x8, .f32⟩
  | 118 => ⟨S3x5x256x256, .f32⟩
  | 119 => ⟨S3x5x256x256, .bf16⟩
  | 120 => ⟨S3x3x8, .f32⟩
  | 121 => ⟨S1x1x8, .f32⟩
  | 122 => ⟨S1x1x3x3x8, .f32⟩
  | 123 => ⟨S25x1x3x3x8, .f32⟩
  | 124 => ⟨S25x1x3x3x8, .f32⟩
  | 125 => ⟨S25x1x3x3x8, .f32⟩
  | 126 => ⟨S25x32x3x3x8, .f32⟩
  | 127 => ⟨S25x32x3x3x8, .f32⟩
  | _ => ⟨S1024x4, .f32⟩

abbrev hbmTy0_1 (i : Nat) : BufTy := match i % 128 with
  | 0 => ⟨S25x32x3x3x8, .f32⟩
  | 1 => ⟨S_, .f32⟩
  | 2 => ⟨S25x32x8, .f32⟩
  | 3 => ⟨S25x32x8, .f32⟩
  | 4 => ⟨S25x32x8, .f32⟩
  | 5 => ⟨S25x1x256, .f32⟩
  | 6 => ⟨S2x2x8x8, .f32⟩
  | 7 => ⟨S3x3x6x2x2x8, .f32⟩
  | 8 => ⟨S2x3x2x3x8x6, .f32⟩
  | 9 => ⟨S2x3x1x1x2x3x8x6, .f32⟩
  | 10 => ⟨S2x3x3x2x2x3x8x6, .f32⟩
  | 11 => ⟨S2x3x3x2x2x3x8x6, .f32⟩
  | 12 => ⟨S2x3x3x2x2x3x8x6, .f32⟩
  | 13 => ⟨S_, .f32⟩
  | 14 => ⟨S3x2x2x3x8x6, .f32⟩
  | 15 => ⟨S2x3x3x2x8x6, .f32⟩
  | 16 => ⟨S2x3x3x1x2x1x8x6, .f32⟩
  | 17 => ⟨S2x3x3x3x2x2x8x6, .f32⟩
  | 18 => ⟨S2x3x3x3x2x2x8x6, .f32⟩
  | 19 => ⟨S2x3x3x3x2x2x8x6, .f32⟩
  | 20 => ⟨S_, .f32⟩
  | 21 => ⟨S3x3x2x2x8x6, .f32⟩
  | 22 => ⟨S3x2x3x2x8x6, .f32⟩
  | 23 => ⟨S3x2x3x2x1x8x6x1, .f32⟩
  | 24 => ⟨S3x2x3x2x32x8x6x64, .f32⟩
  | 25 => ⟨S3x2x3x2x32x8x6x64, .f32⟩
  | 26 => ⟨S3x2x3x2x32x8x6x64, .f32⟩
  | 27 => ⟨S_, .f32⟩
  | 28 => ⟨S3x2x32x8x6x64, .f32⟩
  | 29 => ⟨S3x2x256x384, .f32⟩
  | 30 => ⟨S3x2x256x384, .bf16⟩
  | 31 => ⟨S3x3x6, .f32⟩
  | 32 => ⟨S1x1x6, .f32⟩
  | 33 => ⟨S1x1x3x3x6, .f32⟩
  | 34 => ⟨S50x1x3x3x6, .f32⟩
  | 35 => ⟨S50x1x3x3x6, .f32⟩
  | 36 => ⟨S50x1x3x3x6, .f32⟩
  | 37 => ⟨S50x64x3x3x6, .f32⟩
  | 38 => ⟨S50x64x3x3x6, .f32⟩
  | 39 => ⟨S50x64x3x3x6, .f32⟩
  | 40 => ⟨S_, .f32⟩
  | 41 => ⟨S50x64x6, .f32⟩
  | 42 => ⟨S50x64x6, .f32⟩
  | 43 => ⟨S50x64x6, .f32⟩
  | 44 => ⟨S50x6x64, .f32⟩
  | 45 => ⟨S50x1x384, .f32⟩
  | 46 => ⟨S1024x4, .bf16⟩
  | 47 => ⟨S50x1024x384, .f32⟩
  | 48 => ⟨S50x1024x6x64, .f32⟩
  | 49 => ⟨S1024x6x50x64, .f32⟩
  | _ => ⟨S1024x4, .f32⟩

abbrev hbmTy (i : Nat) : BufTy := match i / 128 with
  | 0 => hbmTy0_0 i
  | 1 => hbmTy0_1 i
  | _ => ⟨S1024x4, .f32⟩

abbrev bufTy : (tb : Table) → Fin (tcTables nBuf tb) → BufTy
  | .hbm, ⟨i, _⟩ => hbmTy i
  | .local _ .vmem, ⟨0, _⟩ => ⟨S128x4, .bf16⟩
  | .local _ .vmem, ⟨1, _⟩ => ⟨S128x4, .bf16⟩
  | .local _ .vmem, ⟨2, _⟩ => ⟨S4x256, .bf16⟩
  | .local _ .vmem, ⟨3, _⟩ => ⟨S1x256, .f32⟩
  | .local _ .vmem, ⟨4, _⟩ => ⟨S5x256x256, .bf16⟩
  | .local _ .vmem, ⟨5, _⟩ => ⟨S5x1x256, .f32⟩
  | .local _ .vmem, ⟨6, _⟩ => ⟨S3x5x256x256, .bf16⟩
  | .local _ .vmem, ⟨7, _⟩ => ⟨S25x1x256, .f32⟩
  | .local _ .vmem, ⟨8, _⟩ => ⟨S3x2x256x384, .bf16⟩
  | .local _ .vmem, ⟨9, _⟩ => ⟨S50x1x384, .f32⟩
  | .local _ .vmem, ⟨10, _⟩ => ⟨S50x128x384, .f32⟩
  | .local _ .vmem, ⟨11, _⟩ => ⟨S50x128x384, .f32⟩
  | .local _ .vmem, ⟨12, _⟩ => ⟨S7x128x256, .f32⟩
  | .local _ .vmem, ⟨13, _⟩ => ⟨S27x128x256, .f32⟩
  | _, _ => ⟨S1024x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_c_1 : Ref sig .tc := ⟨.hbm, 17, rfl⟩
abbrev main_cst : Ref sig .tc := ⟨.hbm, 18, rfl⟩
abbrev main_v0 : Ref sig .tc := ⟨.hbm, 19, rfl⟩
abbrev main_cst_2 : Ref sig .tc := ⟨.hbm, 20, rfl⟩
abbrev main_v1 : Ref sig .tc := ⟨.hbm, 21, rfl⟩
abbrev main_cst_3 : Ref sig .tc := ⟨.hbm, 22, rfl⟩
abbrev main_cst_4 : Ref sig .tc := ⟨.hbm, 23, rfl⟩
abbrev main_cst_5 : Ref sig .tc := ⟨.hbm, 24, rfl⟩
abbrev main_cst_6 : Ref sig .tc := ⟨.hbm, 25, rfl⟩
abbrev main_v2 : Ref sig .tc := ⟨.hbm, 26, rfl⟩
abbrev main_cst_7 : Ref sig .tc := ⟨.hbm, 27, rfl⟩
abbrev main_v3 : Ref sig .tc := ⟨.hbm, 28, rfl⟩
abbrev main_cst_8 : Ref sig .tc := ⟨.hbm, 29, rfl⟩
abbrev main_cst_9 : Ref sig .tc := ⟨.hbm, 30, rfl⟩
abbrev main_cst_10 : Ref sig .tc := ⟨.hbm, 31, rfl⟩
abbrev main_cst_11 : Ref sig .tc := ⟨.hbm, 32, rfl⟩
abbrev main_v4 : Ref sig .tc := ⟨.hbm, 33, rfl⟩
abbrev main_cst_12 : Ref sig .tc := ⟨.hbm, 34, rfl⟩
abbrev main_v5 : Ref sig .tc := ⟨.hbm, 35, rfl⟩
abbrev main_cst_13 : Ref sig .tc := ⟨.hbm, 36, rfl⟩
abbrev main_cst_14 : Ref sig .tc := ⟨.hbm, 37, rfl⟩
abbrev main_cst_15 : Ref sig .tc := ⟨.hbm, 38, rfl⟩
abbrev main_v6 : Ref sig .tc := ⟨.hbm, 39, rfl⟩
abbrev main_c_16 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_c_17 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_18 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_19 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_20 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_21 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_22 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_23 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_24 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_25 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_26 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_27 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_28 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_29 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x4 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S25x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x2x256x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S50x1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S50x128x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1024x4 : Shape := ⟨2, ![1024, 4]⟩
abbrev S256x4 : Shape := ⟨2, ![256, 4]⟩
abbrev S256 : Shape := ⟨1, ![256]⟩
abbrev S5x2x32x32 : Shape := ⟨4, ![5, 2, 32, 32]⟩
abbrev S32 : Shape := ⟨1, ![32]⟩
abbrev S3x3x32x16 : Shape := ⟨4, ![3, 3, 32, 16]⟩
abbrev S16 : Shape := ⟨1, ![16]⟩
abbrev S5x2x16x16 : Shape := ⟨4, ![5, 2, 16, 16]⟩
abbrev S3x3x16x8 : Shape := ⟨4, ![3, 3, 16, 8]⟩
abbrev S8 : Shape := ⟨1, ![8]⟩
abbrev S2x2x8x8 : Shape := ⟨4, ![2, 2, 8, 8]⟩
abbrev S3x3x8x6 : Shape := ⟨4, ![3, 3, 8, 6]⟩
abbrev S6 : Shape := ⟨1, ![6]⟩
abbrev S4x256 : Shape := ⟨2, ![4, 256]⟩
abbrev S1024x256 : Shape := ⟨2, ![1024, 256]⟩
abbrev S1x256 : Shape := ⟨2, ![1, 256]⟩
abbrev S_ : Shape := ⟨0, ![]⟩
abbrev S1024x32x1x8 : Shape := ⟨4, ![1024, 32, 1, 8]⟩
abbrev S1024x1x8x32 : Shape := ⟨4, ![1024, 1, 8, 32]⟩
abbrev S5x2x32x1024x1x8 : Shape := ⟨6, ![5, 2, 32, 1024, 1, 8]⟩
abbrev S1024x1x5x8x2x32 : Shape := ⟨6, ![1024, 1, 5, 8, 2, 32]⟩
abbrev S1024x5x16x32 : Shape := ⟨4, ![1024, 5, 16, 32]⟩
abbrev S1x1x1x32 : Shape := ⟨4, ![1, 1, 1, 32]⟩
abbrev S1024x7x18x32 : Shape := ⟨4, ![1024, 7, 18, 32]⟩
abbrev S1x1x32x16 : Shape := ⟨4, ![1, 1, 32, 16]⟩
abbrev S32x16 : Shape := ⟨2, ![32, 16]⟩
abbrev S1024x5x16x16 : Shape := ⟨4, ![1024, 5, 16, 16]⟩
abbrev S1x1x1x16 : Shape := ⟨4, ![1, 1, 1, 16]⟩
abbrev S5x2x16x1024x5x16 : Shape := ⟨6, ![5, 2, 16, 1024, 5, 16]⟩
abbrev S1024x5x5x16x2x16 : Shape := ⟨6, ![1024, 5, 5, 16, 2, 16]⟩
abbrev S1024x25x32x16 : Shape := ⟨4, ![1024, 25, 32, 16]⟩
abbrev S1024x27x34x16 : Shape := ⟨4, ![1024, 27, 34, 16]⟩
abbrev S1x1x16x8 : Shape := ⟨4, ![1, 1, 16, 8]⟩
abbrev S16x8 : Shape := ⟨2, ![16, 8]⟩
abbrev S1024x25x32x8 : Shape := ⟨4, ![1024, 25, 32, 8]⟩
abbrev S1x1x1x8 : Shape := ⟨4, ![1, 1, 1, 8]⟩
abbrev S2x2x8x1024x25x32 : Shape := ⟨6, ![2, 2, 8, 1024, 25, 32]⟩
abbrev S1024x25x2x32x2x8 : Shape := ⟨6, ![1024, 25, 2, 32, 2, 8]⟩
abbrev S1024x50x64x8 : Shape := ⟨4, ![1024, 50, 64, 8]⟩
abbrev S1024x52x66x8 : Shape := ⟨4, ![1024, 52, 66, 8]⟩
abbrev S1x1x8x6 : Shape := ⟨4, ![1, 1, 8, 6]⟩
abbrev S8x6 : Shape := ⟨2, ![8, 6]⟩
abbrev S1024x50x64x6 : Shape := ⟨4, ![1024, 50, 64, 6]⟩
abbrev S1x1x1x6 : Shape := ⟨4, ![1, 1, 1, 6]⟩
abbrev S1024x6x50x64 : Shape := ⟨4, ![1024, 6, 50, 64]⟩

abbrev nBuf : Space → Nat
  | .hbm => 218
  | .vmem => 0
  | .smem => 0
  | _ => 0

abbrev hbmTy0_0 (i : Nat) : BufTy := match i % 128 with
  | 0 => ⟨S1024x4, .f32⟩
  | 1 => ⟨S256x4, .f32⟩
  | 2 => ⟨S256, .f32⟩
  | 3 => ⟨S5x2x32x32, .f32⟩
  | 4 => ⟨S32, .f32⟩
  | 5 => ⟨S3x3x32x16, .f32⟩
  | 6 => ⟨S16, .f32⟩
  | 7 => ⟨S5x2x16x16, .f32⟩
  | 8 => ⟨S16, .f32⟩
  | 9 => ⟨S3x3x16x8, .f32⟩
  | 10 => ⟨S8, .f32⟩
  | 11 => ⟨S2x2x8x8, .f32⟩
  | 12 => ⟨S8, .f32⟩
  | 13 => ⟨S3x3x8x6, .f32⟩
  | 14 => ⟨S6, .f32⟩
  | 15 => ⟨S4x256, .f32⟩
  | 16 => ⟨S1024x256, .f32⟩
  | 17 => ⟨S1x256, .f32⟩
  | 18 => ⟨S1024x256, .f32⟩
  | 19 => ⟨S1024x256, .f32⟩
  | 20 => ⟨S_, .f32⟩
  | 21 => ⟨S1024x256, .f32⟩
  | 22 => ⟨S1024x256, .i1⟩
  | 23 => ⟨S_, .f32⟩
  | 24 => ⟨S1024x256, .f32⟩
  | 25 => ⟨S1024x256, .f32⟩
  | 26 => ⟨S1024x256, .f32⟩
  | 27 => ⟨S1024x32x1x8, .f32⟩
  | 28 => ⟨S1024x1x8x32, .f32⟩
  | 29 => ⟨S5x2x32x32, .f32⟩
  | 30 => ⟨S5x2x32x1024x1x8, .f32⟩
  | 31 => ⟨S1024x1x5x8x2x32, .f32⟩
  | 32 => ⟨S1024x5x16x32, .f32⟩
  | 33 => ⟨S1x1x1x32, .f32⟩
  | 34 => ⟨S1024x5x16x32, .f32⟩
  | 35 => ⟨S1024x5x16x32, .f32⟩
  | 36 => ⟨S_, .i32⟩
  | 37 => ⟨S_, .f32⟩
  | 38 => ⟨S1024x7x18x32, .f32⟩
  | 39 => ⟨S1024x5x16x32, .f32⟩
  | 40 => ⟨S1x1x32x16, .f32⟩
  | 41 => ⟨S32x16, .f32⟩
  | 42 => ⟨S1024x5x16x16, .f32⟩
  | 43 => ⟨S1x1x1x16, .f32⟩
  | 44 => ⟨S1024x5x16x16, .f32⟩
  | 45 => ⟨S1024x5x16x16, .f32⟩
  | 46 => ⟨S1024x5x16x32, .f32⟩
  | 47 => ⟨S1x1x32x16, .f32⟩
  | 48 => ⟨S32x16, .f32⟩
  | 49 => ⟨S1024x5x16x16, .f32⟩
  | 50 => ⟨S1024x5x16x16, .f32⟩
  | 51 => ⟨S1024x5x16x32, .f32⟩
  | 52 => ⟨S1x1x32x16, .f32⟩
  | 53 => ⟨S32x16, .f32⟩
  | 54 => ⟨S1024x5x16x16, .f32⟩
  | 55 => ⟨S1024x5x16x16, .f32⟩
  | 56 => ⟨S1024x5x16x32, .f32⟩
  | 57 => ⟨S1x1x32x16, .f32⟩
  | 58 => ⟨S32x16, .f32⟩
  | 59 => ⟨S1024x5x16x16, .f32⟩
  | 60 => ⟨S1024x5x16x16, .f32⟩
  | 61 => ⟨S1024x5x16x32, .f32⟩
  | 62 => ⟨S1x1x32x16, .f32⟩
  | 63 => ⟨S32x16, .f32⟩
  | 64 => ⟨S1024x5x16x16, .f32⟩
  | 65 => ⟨S1024x5x16x16, .f32⟩
  | 66 => ⟨S1024x5x16x32, .f32⟩
  | 67 => ⟨S1x1x32x16, .f32⟩
  | 68 => ⟨S32x16, .f32⟩
  | 69 => ⟨S1024x5x16x16, .f32⟩
  | 70 => ⟨S1024x5x16x16, .f32⟩
  | 71 => ⟨S1024x5x16x32, .f32⟩
  | 72 => ⟨S1x1x32x16, .f32⟩
  | 73 => ⟨S32x16, .f32⟩
  | 74 => ⟨S1024x5x16x16, .f32⟩
  | 75 => ⟨S1024x5x16x16, .f32⟩
  | 76 => ⟨S1024x5x16x32, .f32⟩
  | 77 => ⟨S1x1x32x16, .f32⟩
  | 78 => ⟨S32x16, .f32⟩
  | 79 => ⟨S1024x5x16x16, .f32⟩
  | 80 => ⟨S1024x5x16x16, .f32⟩
  | 81 => ⟨S1024x5x16x32, .f32⟩
  | 82 => ⟨S1x1x32x16, .f32⟩
  | 83 => ⟨S32x16, .f32⟩
  | 84 => ⟨S1024x5x16x16, .f32⟩
  | 85 => ⟨S1024x5x16x16, .f32⟩
  | 86 => ⟨S_, .f32⟩
  | 87 => ⟨S1024x5x16x16, .f32⟩
  | 88 => ⟨S1024x5x16x16, .i1⟩
  | 89 => ⟨S_, .f32⟩
  | 90 => ⟨S1024x5x16x16, .f32⟩
  | 91 => ⟨S1024x5x16x16, .f32⟩
  | 92 => ⟨S1024x5x16x16, .f32⟩
  | 93 => ⟨S5x2x16x16, .f32⟩
  | 94 => ⟨S5x2x16x1024x5x16, .f32⟩
  | 95 => ⟨S1024x5x5x16x2x16, .f32⟩
  | 96 => ⟨S1024x25x32x16, .f32⟩
  | 97 => ⟨S1x1x1x16, .f32⟩
  | 98 => ⟨S1024x25x32x16, .f32⟩
  | 99 => ⟨S1024x25x32x16, .f32⟩
  | 100 => ⟨S_, .i32⟩
  | 101 => ⟨S_, .f32⟩
  | 102 => ⟨S1024x27x34x16, .f32⟩
  | 103 => ⟨S1024x25x32x16, .f32⟩
  | 104 => ⟨S1x1x16x8, .f32⟩
  | 105 => ⟨S16x8, .f32⟩
  | 106 => ⟨S1024x25x32x8, .f32⟩
  | 107 => ⟨S1x1x1x8, .f32⟩
  | 108 => ⟨S1024x25x32x8, .f32⟩
  | 109 => ⟨S1024x25x32x8, .f32⟩
  | 110 => ⟨S1024x25x32x16, .f32⟩
  | 111 => ⟨S1x1x16x8, .f32⟩
  | 112 => ⟨S16x8, .f32⟩
  | 113 => ⟨S1024x25x32x8, .f32⟩
  | 114 => ⟨S1024x25x32x8, .f32⟩
  | 115 => ⟨S1024x25x32x16, .f32⟩
  | 116 => ⟨S1x1x16x8, .f32⟩
  | 117 => ⟨S16x8, .f32⟩
  | 118 => ⟨S1024x25x32x8, .f32⟩
  | 119 => ⟨S1024x25x32x8, .f32⟩
  | 120 => ⟨S1024x25x32x16, .f32⟩
  | 121 => ⟨S1x1x16x8, .f32⟩
  | 122 => ⟨S16x8, .f32⟩
  | 123 => ⟨S1024x25x32x8, .f32⟩
  | 124 => ⟨S1024x25x32x8, .f32⟩
  | 125 => ⟨S1024x25x32x16, .f32⟩
  | 126 => ⟨S1x1x16x8, .f32⟩
  | 127 => ⟨S16x8, .f32⟩
  | _ => ⟨S1024x4, .f32⟩

abbrev hbmTy0_1 (i : Nat) : BufTy := match i % 128 with
  | 0 => ⟨S1024x25x32x8, .f32⟩
  | 1 => ⟨S1024x25x32x8, .f32⟩
  | 2 => ⟨S1024x25x32x16, .f32⟩
  | 3 => ⟨S1x1x16x8, .f32⟩
  | 4 => ⟨S16x8, .f32⟩
  | 5 => ⟨S1024x25x32x8, .f32⟩
  | 6 => ⟨S1024x25x32x8, .f32⟩
  | 7 => ⟨S1024x25x32x16, .f32⟩
  | 8 => ⟨S1x1x16x8, .f32⟩
  | 9 => ⟨S16x8, .f32⟩
  | 10 => ⟨S1024x25x32x8, .f32⟩
  | 11 => ⟨S1024x25x32x8, .f32⟩
  | 12 => ⟨S1024x25x32x16, .f32⟩
  | 13 => ⟨S1x1x16x8, .f32⟩
  | 14 => ⟨S16x8, .f32⟩
  | 15 => ⟨S1024x25x32x8, .f32⟩
  | 16 => ⟨S1024x25x32x8, .f32⟩
  | 17 => ⟨S1024x25x32x16, .f32⟩
  | 18 => ⟨S1x1x16x8, .f32⟩
  | 19 => ⟨S16x8, .f32⟩
  | 20 => ⟨S1024x25x32x8, .f32⟩
  | 21 => ⟨S1024x25x32x8, .f32⟩
  | 22 => ⟨S_, .f32⟩
  | 23 => ⟨S1024x25x32x8, .f32⟩
  | 24 => ⟨S1024x25x32x8, .i1⟩
  | 25 => ⟨S_, .f32⟩
  | 26 => ⟨S1024x25x32x8, .f32⟩
  | 27 => ⟨S1024x25x32x8, .f32⟩
  | 28 => ⟨S1024x25x32x8, .f32⟩
  | 29 => ⟨S2x2x8x8, .f32⟩
  | 30 => ⟨S2x2x8x1024x25x32, .f32⟩
  | 31 => ⟨S1024x25x2x32x2x8, .f32⟩
  | 32 => ⟨S1024x50x64x8, .f32⟩
  | 33 => ⟨S1x1x1x8, .f32⟩
  | 34 => ⟨S1024x50x64x8, .f32⟩
  | 35 => ⟨S1024x50x64x8, .f32⟩
  | 36 => ⟨S_, .i32⟩
  | 37 => ⟨S_, .f32⟩
  | 38 => ⟨S1024x52x66x8, .f32⟩
  | 39 => ⟨S1024x50x64x8, .f32⟩
  | 40 => ⟨S1x1x8x6, .f32⟩
  | 41 => ⟨S8x6, .f32⟩
  | 42 => ⟨S1024x50x64x6, .f32⟩
  | 43 => ⟨S1x1x1x6, .f32⟩
  | 44 => ⟨S1024x50x64x6, .f32⟩
  | 45 => ⟨S1024x50x64x6, .f32⟩
  | 46 => ⟨S1024x50x64x8, .f32⟩
  | 47 => ⟨S1x1x8x6, .f32⟩
  | 48 => ⟨S8x6, .f32⟩
  | 49 => ⟨S1024x50x64x6, .f32⟩
  | 50 => ⟨S1024x50x64x6, .f32⟩
  | 51 => ⟨S1024x50x64x8, .f32⟩
  | 52 => ⟨S1x1x8x6, .f32⟩
  | 53 => ⟨S8x6, .f32⟩
  | 54 => ⟨S1024x50x64x6, .f32⟩
  | 55 => ⟨S1024x50x64x6, .f32⟩
  | 56 => ⟨S1024x50x64x8, .f32⟩
  | 57 => ⟨S1x1x8x6, .f32⟩
  | 58 => ⟨S8x6, .f32⟩
  | 59 => ⟨S1024x50x64x6, .f32⟩
  | 60 => ⟨S1024x50x64x6, .f32⟩
  | 61 => ⟨S1024x50x64x8, .f32⟩
  | 62 => ⟨S1x1x8x6, .f32⟩
  | 63 => ⟨S8x6, .f32⟩
  | 64 => ⟨S1024x50x64x6, .f32⟩
  | 65 => ⟨S1024x50x64x6, .f32⟩
  | 66 => ⟨S1024x50x64x8, .f32⟩
  | 67 => ⟨S1x1x8x6, .f32⟩
  | 68 => ⟨S8x6, .f32⟩
  | 69 => ⟨S1024x50x64x6, .f32⟩
  | 70 => ⟨S1024x50x64x6, .f32⟩
  | 71 => ⟨S1024x50x64x8, .f32⟩
  | 72 => ⟨S1x1x8x6, .f32⟩
  | 73 => ⟨S8x6, .f32⟩
  | 74 => ⟨S1024x50x64x6, .f32⟩
  | 75 => ⟨S1024x50x64x6, .f32⟩
  | 76 => ⟨S1024x50x64x8, .f32⟩
  | 77 => ⟨S1x1x8x6, .f32⟩
  | 78 => ⟨S8x6, .f32⟩
  | 79 => ⟨S1024x50x64x6, .f32⟩
  | 80 => ⟨S1024x50x64x6, .f32⟩
  | 81 => ⟨S1024x50x64x8, .f32⟩
  | 82 => ⟨S1x1x8x6, .f32⟩
  | 83 => ⟨S8x6, .f32⟩
  | 84 => ⟨S1024x50x64x6, .f32⟩
  | 85 => ⟨S1024x50x64x6, .f32⟩
  | 86 => ⟨S_, .f32⟩
  | 87 => ⟨S1024x50x64x6, .f32⟩
  | 88 => ⟨S1024x50x64x6, .f32⟩
  | 89 => ⟨S1024x6x50x64, .f32⟩
  | _ => ⟨S1024x4, .f32⟩

abbrev hbmTy (i : Nat) : BufTy := match i / 128 with
  | 0 => hbmTy0_0 i
  | 1 => hbmTy0_1 i
  | _ => ⟨S1024x4, .f32⟩

abbrev bufTy : (tb : Table) → Fin (tcTables nBuf tb) → BufTy
  | .hbm, ⟨i, _⟩ => hbmTy i
  | _, _ => ⟨S1024x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_call1_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_1 : Ref sig .tc := ⟨.hbm, 86, rfl⟩
abbrev main_v67 : Ref sig .tc := ⟨.hbm, 87, rfl⟩
abbrev main_v68 : Ref sig .tc := ⟨.hbm, 88, rfl⟩
abbrev main_cst_2 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_c_3 : Ref sig .tc := ⟨.hbm, 100, rfl⟩
abbrev main_call3_v0 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_cst_4 : Ref sig .tc := ⟨.hbm, 150, rfl⟩
abbrev main_v127 : Ref sig .tc := ⟨.hbm, 151, rfl⟩
abbrev main_v128 : Ref sig .tc := ⟨.hbm, 152, rfl⟩
abbrev main_cst_5 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_c_6 : Ref sig .tc := ⟨.hbm, 164, rfl⟩
abbrev main_call5_v0 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_cst_7 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩

abbrev nD : Nat := 1
abbrev τ : Topo := Topo.v7x

variable {F : FTy → Type} [FloatOps F]
-- ==== Proof.Fuse.lean ====
/- The mathematics of one level of the decoder, over the real numbers.

   A level of the reference is an unpooling (a transposed convolution whose stride is its kernel's extent) followed
   by a 3x3 convolution with zero padding. The kernel composes the two into one banded matrix per (row shift, row
   phase) and one bias image, and contracts whole rows of activations with the bands. This file states both sides
   with the row stride `S` and the column stride 2, at any extents, and proves them equal (`kern_eq_level`).

   Rows, columns, channels and kernel positions are natural numbers; a sum ranges over `Fin n`. -/
module

public import Mathlib.Data.Real.Basic
public import Mathlib.Algebra.BigOperators.Fin
public import Mathlib.Algebra.BigOperators.Ring.Finset
public import Mathlib.Tactic.Ring
public import Mathlib.Tactic.IntervalCases

@[expose] public section

noncomputable section

namespace Cert.Decoder

/-- Weights of an unpooling: (row phase, column phase, channel in, channel out). -/
abbrev W4 := ℕ → ℕ → ℕ → ℕ → ℝ
/-- One image: (row, column, channel). -/
abbrev Img := ℕ → ℕ → ℕ → ℝ

/-! ## The reference's level -/

/-- The unpooled image: every pixel becomes an `S` by 2 patch, through the flipped weights, plus a bias. -/
def up (S Ci : ℕ) (Wu : W4) (bu : ℕ → ℝ) (x : Img) (h w m : ℕ) : ℝ :=
  ∑ c : Fin Ci, x (h / S) (w / 2) c * Wu (S - 1 - h % S) (1 - w % 2) c m + bu m

/-- An image of `H` by `W` pixels inside a frame of zeros one pixel wide. -/
def padded (H W : ℕ) (u : Img) (h w m : ℕ) : ℝ :=
  if (1 ≤ h ∧ h < H + 1) ∧ (1 ≤ w ∧ w < W + 1) then u (h - 1) (w - 1) m else 0

/-- The 3x3 convolution of a padded image, plus a bias. -/
def conv (Cm : ℕ) (Wc : W4) (bc : ℕ → ℝ) (u : Img) (h w o : ℕ) : ℝ :=
  bc o + ∑ d : Fin 3, ∑ v : Fin 3, ∑ m : Fin Cm, u (h + d) (w + v) m * Wc d v m o

/-- A level of the reference: unpool, pad, convolve. -/
def level (S Hin Win Ci Cm : ℕ) (Wu : W4) (bu : ℕ → ℝ) (Wc : W4) (bc : ℕ → ℝ) (x : Img) : Img :=
  conv Cm Wc bc (padded (S * Hin) (2 * Win) (up S Ci Wu bu x))

/-! ## The kernel's level -/

/-- Which (shift `A`, phase `p`) of the coarse grid the tap `d` of a fine row of phase `P` falls on: shift 0 is the
    row's own coarse row, 1 the one before, 2 the one after. -/
def sel (S A P p d : ℕ) : Prop :=
  (A = 0 ∧ p + 1 = P + d) ∨ (A = 1 ∧ P = 0 ∧ p + 1 = S ∧ d = 0) ∨ (A = 2 ∧ P + 1 = S ∧ p = 0 ∧ d = 2)

instance (S A P p d : ℕ) : Decidable (sel S A P p d) := by unfold sel; infer_instance

/-- Fine column `w` has phase `Q` and its coarse column, shifted by `B`, is `j`. -/
def shf (B Q j w : ℕ) : Prop :=
  w % 2 = Q ∧ ((B = 0 ∧ j = w / 2) ∨ (B = 1 ∧ j + 1 = w / 2) ∨ (B = 2 ∧ j = w / 2 + 1))

instance (B Q j w : ℕ) : Decidable (shf B Q j w) := by unfold shf; infer_instance

/-- Tap `d` at position `h` stays inside an axis of extent `H`. -/
def ins (H h d : ℕ) : Prop := 1 ≤ h + d ∧ h + d < H + 1

instance (H h d : ℕ) : Decidable (ins H h d) := by unfold ins; infer_instance

open Classical in
/-- An indicator as a real number. -/
def ind (p : Prop) : ℝ := if p then 1 else 0

theorem ind_pos {p : Prop} (h : p) : ind p = 1 := if_pos h

theorem ind_neg {p : Prop} (h : ¬ p) : ind p = 0 := if_neg h

theorem ind_congr {p q : Prop} (h : p ↔ q) : ind p = ind q := by rw [propext h]

theorem ind_and (p q : Prop) : ind p * ind q = ind (p ∧ q) := by
  by_cases hp : p <;> by_cases hq : q <;> simp [ind, hp, hq]

/-- Both weights contracted over the middle channel. -/
def prod (S Cm : ℕ) (Wu Wc : W4) (p d q v c o : ℕ) : ℝ :=
  ∑ m : Fin Cm, Wu (S - 1 - p) (1 - q) c m * Wc d v m o

/-- The composed kernel at (row shift, column shift, row phase, column phase). -/
def comp (S Cm : ℕ) (Wu Wc : W4) (A B P Q c o : ℕ) : ℝ :=
  ∑ p : Fin S, ∑ d : Fin 3, ∑ q : Fin 2, ∑ v : Fin 3,
    prod S Cm Wu Wc p d q v c o * ind (sel S A P p d) * ind (sel 2 B Q q v)

/-- The banded matrix: from coarse (column `j`, channel `c`) to fine (column `w`, channel `o`). -/
def band (S Cm : ℕ) (Wu Wc : W4) (A P j c w o : ℕ) : ℝ :=
  ∑ B : Fin 3, ∑ Q : Fin 2, ind (shf B Q j w) * comp S Cm Wu Wc A B P Q c o

/-- The bias image: what the unpooling's bias becomes after the convolution, plus the convolution's own. -/
def bias (H W Cm : ℕ) (bu : ℕ → ℝ) (Wc : W4) (bc : ℕ → ℝ) (h w o : ℕ) : ℝ :=
  bc o + ∑ d : Fin 3, ∑ v : Fin 3,
    (∑ m : Fin Cm, bu m * Wc d v m o) * ind (ins H h d) * ind (ins W w v)

/-- The coarse row at shift `A` from row `i` of `Hin`, zero outside. -/
def rowAt {α : Type*} (Hin : ℕ) (x : ℕ → α → ℝ) (A i : ℕ) (k : α) : ℝ :=
  if A = 0 then x i k else if A = 1 then (if 1 ≤ i then x (i - 1) k else 0)
  else if i + 1 < Hin then x (i + 1) k else 0

/-- One row shift's contribution to a fine pixel. -/
def part (S Hin Win Ci Cm : ℕ) (Wu Wc : W4) (x : Img) (A i P w o : ℕ) : ℝ :=
  ∑ j : Fin Win, ∑ c : Fin Ci,
    rowAt Hin (fun r (k : ℕ × ℕ) => x r k.1 k.2) A i (j, c) * band S Cm Wu Wc A P j c w o

/-- A level of the kernel at coarse row `i`, phase `P`. -/
def kern (S Hin Win Ci Cm : ℕ) (Wu : W4) (bu : ℕ → ℝ) (Wc : W4) (bc : ℕ → ℝ) (x : Img) (i P w o : ℕ) : ℝ :=
  ∑ A : Fin 3, part S Hin Win Ci Cm Wu Wc x A i P w o
    + bias (S * Hin) (2 * Win) Cm bu Wc bc (S * i + P) w o

/-! ## The two selections -/

/-- A row's tap, found through the shifts and phases, is the tap of the padded image. -/
theorem sel_rows (S Hin i P d : ℕ) (hP : P < S) (hi : i < Hin) (hd : d < 3) (φ : ℕ → ℕ → ℝ) :
    ∑ A : Fin 3, ∑ p : Fin S, ind (sel S A P p d) * rowAt Hin φ A i (p : ℕ)
      = if ins (S * Hin) (S * i + P) d then φ ((S * i + P + d - 1) / S) ((S * i + P + d - 1) % S) else 0 := by
  have key : ∀ (A e : ℕ) (f : ℕ → ℝ), (∀ p < S, sel S A P p d ↔ p = e) →
      ∑ p : Fin S, ind (sel S A P p d) * f p = if e < S then f e else 0 := by
    intro A e f h
    by_cases he : e < S
    · rw [if_pos he, Finset.sum_eq_single (⟨e, he⟩ : Fin S)]
      · rw [ind_pos ((h e he).2 rfl), one_mul]
      · intro p _ hp
        rw [ind_neg (fun hs => hp (Fin.ext ((h p p.isLt).1 hs))), zero_mul]
      · intro hn; exact absurd (Finset.mem_univ _) hn
    · rw [if_neg he]
      refine Finset.sum_eq_zero fun p _ => ?_
      rw [ind_neg (fun hs => he ((h p p.isLt).1 hs ▸ p.isLt)), zero_mul]
  have hmul : S * (i + 1) ≤ S * Hin := Nat.mul_le_mul_left _ hi
  have hdm : ∀ k p : ℕ, p < S → (S * k + p) / S = k ∧ (S * k + p) % S = p := fun k p hp =>
    ⟨by rw [Nat.mul_add_div (by omega), Nat.div_eq_of_lt hp, Nat.add_zero],
     by rw [Nat.mul_add_mod, Nat.mod_eq_of_lt hp]⟩
  have e1 : S * (i + 1) = S * i + S := by ring
  rw [Fin.sum_univ_three]
  simp only [Fin.val_zero, Fin.val_one, Fin.val_two]
  by_cases h0 : 1 ≤ P + d ∧ P + d < S + 1
  · -- the tap stays in its own coarse row
    rw [key 0 (P + d - 1) _ (fun p hp => by unfold sel; omega),
      key 1 S _ (fun p hp => by unfold sel; omega), key 2 S _ (fun p hp => by unfold sel; omega),
      if_pos (by omega), if_neg (lt_irrefl S), if_pos (show ins _ _ _ by unfold ins; omega)]
    have := hdm i (P + d - 1) (by omega)
    rw [show S * i + P + d - 1 = S * i + (P + d - 1) by omega, this.1, this.2]
    simp [rowAt]
  · rcases Nat.lt_or_ge (P + d) 1 with h1 | h1
    · -- the row before
      obtain rfl : P = 0 := by omega
      obtain rfl : d = 0 := by omega
      rw [key 0 S _ (fun p hp => by unfold sel; omega),
        key 1 (S - 1) _ (fun p hp => by unfold sel; omega), key 2 S _ (fun p hp => by unfold sel; omega),
        if_neg (lt_irrefl S), if_neg (lt_irrefl S), if_pos (by omega)]
      by_cases hi0 : 1 ≤ i
      · obtain ⟨k, rfl⟩ : ∃ k, i = k + 1 := ⟨i - 1, by omega⟩
        have e2 : S * (k + 1) = S * k + S := by ring
        rw [if_pos (show ins _ _ _ by unfold ins; omega)]
        have := hdm k (S - 1) (by omega)
        rw [show S * (k + 1) + 0 + 0 - 1 = S * k + (S - 1) by omega, this.1, this.2]
        simp [rowAt]
      · obtain rfl : i = 0 := by omega
        rw [if_neg (show ¬ ins _ _ _ by unfold ins; omega)]
        simp [rowAt]
    · -- the row after
      have hPS : P + 1 = S := by omega
      obtain rfl : d = 2 := by omega
      rw [key 0 S _ (fun p hp => by unfold sel; omega),
        key 1 S _ (fun p hp => by unfold sel; omega), key 2 0 _ (fun p hp => by unfold sel; omega),
        if_neg (lt_irrefl S), if_neg (lt_irrefl S), if_pos (by omega)]
      by_cases hi1 : i + 1 < Hin
      · have hmul' : S * (i + 2) ≤ S * Hin := Nat.mul_le_mul_left _ hi1
        have e3 : S * (i + 2) = S * i + S + S := by ring
        rw [if_pos (show ins _ _ _ by unfold ins; omega)]
        have := hdm (i + 1) 0 (by omega)
        rw [show S * i + P + 2 - 1 = S * (i + 1) + 0 by omega, this.1, this.2]
        simp [rowAt, hi1]
      · obtain rfl : Hin = i + 1 := by omega
        rw [if_neg (show ¬ ins _ _ _ by unfold ins; omega)]
        simp [rowAt]

/-- A column's tap, found through the shifts and phases, is the tap of the padded image. -/
theorem sel_cols (Win w v : ℕ) (hw : w < 2 * Win) (hv : v < 3) (ψ : ℕ → ℕ → ℝ) :
    ∑ j : Fin Win, ∑ B : Fin 3, ∑ Q : Fin 2, ∑ q : Fin 2,
        ind (shf B Q j w) * ind (sel 2 B Q q v) * ψ j q
      = if ins (2 * Win) w v then ψ ((w + v - 1) / 2) ((w + v - 1) % 2) else 0 := by
  -- per coarse column: one phase is picked, if any
  have hj : ∀ j : Fin Win, ∑ B : Fin 3, ∑ Q : Fin 2, ∑ q : Fin 2,
      ind (shf B Q j w) * ind (sel 2 B Q q v) * ψ j q
      = if 1 ≤ w + v ∧ (j : ℕ) = (w + v - 1) / 2 then ψ j ((w + v - 1) % 2) else 0 := by
    intro j
    have hq : ∀ (q : ℕ) (_ : q < 2), ∑ B : Fin 3, ∑ Q : Fin 2,
        ind (shf B Q j w) * ind (sel 2 B Q q v) = ind (1 ≤ w + v ∧ (j : ℕ) * 2 + q = w + v - 1) := by
      intro q hq
      simp only [ind_and, Fin.sum_univ_three, Fin.sum_univ_two, Fin.val_zero, Fin.val_one, Fin.val_two]
      have hw2 : w = 2 * (w / 2) + w % 2 := by omega
      generalize w / 2 = a at *
      generalize hb : w % 2 = b at *
      have hb2 : b < 2 := by omega
      subst hw2
      have g1 : (2 * a + b) / 2 = a := by omega
      have g2 : (2 * a + b) % 2 = b := by omega
      simp only [shf, sel, g1, g2]
      have z : ind False = 0 := ind_neg id
      interval_cases b <;> interval_cases v <;> interval_cases q <;> simp [z] <;>
        first
          | (refine ind_congr ?_; omega)
          | (refine (ind_neg ?_).symm; omega)
    have swap : ∑ B : Fin 3, ∑ Q : Fin 2, ∑ q : Fin 2, ind (shf B Q j w) * ind (sel 2 B Q q v) * ψ j q
        = ∑ q : Fin 2, (∑ B : Fin 3, ∑ Q : Fin 2, ind (shf B Q j w) * ind (sel 2 B Q q v)) * ψ j q := by
      simp only [Fin.sum_univ_three, Fin.sum_univ_two]; ring
    rw [swap, Fin.sum_univ_two, hq _ (Fin.isLt _), hq _ (Fin.isLt _)]
    simp only [Fin.val_zero, Fin.val_one]
    by_cases h : 1 ≤ w + v ∧ (j : ℕ) = (w + v - 1) / 2
    · rw [if_pos h]
      rcases Nat.mod_two_eq_zero_or_one (w + v - 1) with h2 | h2
      · rw [ind_pos (by omega), ind_neg (by omega), h2]; ring
      · rw [ind_neg (by omega), ind_pos (by omega), h2]; ring
    · rw [if_neg h, ind_neg (by omega), ind_neg (by omega)]; ring
  rw [Finset.sum_congr rfl fun j _ => hj j]
  by_cases h : ins (2 * Win) w v
  · have h' := h; unfold ins at h'
    have hlt : (w + v - 1) / 2 < Win := by omega
    rw [if_pos h, Finset.sum_eq_single (⟨(w + v - 1) / 2, hlt⟩ : Fin Win)]
    · rw [if_pos ⟨h'.1, rfl⟩]
    · intro j _ hne; rw [if_neg (fun hc => hne (Fin.ext hc.2))]
    · intro hn; exact absurd (Finset.mem_univ _) hn
  · rw [if_neg h]
    refine Finset.sum_eq_zero fun j _ => ?_
    have := j.isLt
    rw [if_neg (by unfold ins at h; omega)]

/-! ## The level -/

/-- The banded contractions are the two selections applied to the unpooled image without its bias. -/
theorem parts_eq (S Hin Win Ci Cm : ℕ) (Wu Wc : W4) (x : Img) (i P w o : ℕ) :
    ∑ A : Fin 3, part S Hin Win Ci Cm Wu Wc x A i P w o
      = ∑ d : Fin 3, ∑ v : Fin 3, ∑ m : Fin Cm,
          (∑ A : Fin 3, ∑ p : Fin S, ind (sel S A P p d) * rowAt Hin (fun r (p : ℕ) =>
            ∑ j : Fin Win, ∑ B : Fin 3, ∑ Q : Fin 2, ∑ q : Fin 2,
              ind (shf B Q j w) * ind (sel 2 B Q q v)
                * ∑ c : Fin Ci, x r j c * Wu (S - 1 - p) (1 - q) c m) A i (p : ℕ)) * Wc d v m o := by
  have hr : ∀ (A : Fin 3) (p : Fin S) (v : Fin 3) (m : Fin Cm), rowAt Hin (fun r (p : ℕ) =>
            ∑ j : Fin Win, ∑ B : Fin 3, ∑ Q : Fin 2, ∑ q : Fin 2,
              ind (shf B Q j w) * ind (sel 2 B Q q v)
                * ∑ c : Fin Ci, x r j c * Wu (S - 1 - p) (1 - q) c m) A i (p : ℕ)
      = ∑ j : Fin Win, ∑ B : Fin 3, ∑ Q : Fin 2, ∑ q : Fin 2,
              ind (shf B Q j w) * ind (sel 2 B Q q v)
                * ∑ c : Fin Ci, rowAt Hin (fun r (k : ℕ × ℕ) => x r k.1 k.2) A i (j, c)
                    * Wu (S - 1 - p) (1 - q) c m := by
    intro A p v m
    unfold rowAt
    split_ifs <;> simp
  simp only [hr]
  unfold part band comp prod
  simp only [Finset.mul_sum, Finset.sum_mul, ← Fintype.sum_prod_type']
  refine Fintype.sum_equiv
    { toFun := fun (t : Fin 3 × Fin Win × Fin Ci × Fin 3 × Fin 2 × Fin S × Fin 3 × Fin 2 × Fin 3 × Fin Cm) =>
        match t with
        | (A, j, c, B, Q, p, d, q, v, m) => (d, v, m, A, p, j, B, Q, q, c)
      invFun := fun t => match t with
        | (d, v, m, A, p, j, B, Q, q, c) => (A, j, c, B, Q, p, d, q, v, m)
      left_inv := fun _ => rfl
      right_inv := fun _ => rfl } _ _ ?_
  rintro ⟨A, j, c, B, Q, p, d, q, v, m⟩
  simp only [Equiv.coe_fn_mk]
  ring

/-- The kernel's level is the reference's level. -/
theorem kern_eq_level (S Hin Win Ci Cm : ℕ) (Wu : W4) (bu : ℕ → ℝ) (Wc : W4) (bc : ℕ → ℝ) (x : Img)
    (i P w o : ℕ) (hP : P < S) (hi : i < Hin) (hw : w < 2 * Win) :
    kern S Hin Win Ci Cm Wu bu Wc bc x i P w o = level S Hin Win Ci Cm Wu bu Wc bc x (S * i + P) w o := by
  unfold kern level conv bias
  rw [parts_eq, ← add_assoc, add_comm _ (bc o), add_assoc, ← Finset.sum_add_distrib]
  congr 1
  refine Finset.sum_congr rfl fun d _ => ?_
  rw [← Finset.sum_add_distrib]
  refine Finset.sum_congr rfl fun v _ => ?_
  rw [Finset.sum_mul, Finset.sum_mul, ← Finset.sum_add_distrib]
  refine Finset.sum_congr rfl fun m _ => ?_
  have hc : (fun (r p : ℕ) => ∑ j : Fin Win, ∑ B : Fin 3, ∑ Q : Fin 2, ∑ q : Fin 2,
        ind (shf B Q j w) * ind (sel 2 B Q q v) * ∑ c : Fin Ci, x r j c * Wu (S - 1 - p) (1 - q) c m)
      = fun r p => if ins (2 * Win) w v then ∑ c : Fin Ci, x r ((w + v - 1) / 2) c
          * Wu (S - 1 - p) (1 - (w + v - 1) % 2) c m else 0 := by
    funext r p
    exact sel_cols Win w v hw v.isLt (fun j q => ∑ c : Fin Ci, x r j c * Wu (S - 1 - p) (1 - q) c m)
  rw [hc, sel_rows S Hin i P d hP hi d.isLt]
  unfold padded up
  by_cases h1 : ins (S * Hin) (S * i + P) d
  · by_cases h2 : ins (2 * Win) w v
    · rw [if_pos h1, if_pos h2, ind_pos h1, ind_pos h2, if_pos (by unfold ins at h1 h2; exact ⟨h1, h2⟩)]
      ring
    · rw [if_pos h1, if_neg h2, ind_neg h2, if_neg (by unfold ins at h2; exact fun h => h2 h.2)]
      ring
  · rw [if_neg h1, ind_neg h1, if_neg (by unfold ins at h1; exact fun h => h1 h.1)]
    ring

/-- A shift by one row contributes only at the first phase, a shift the other way only at the last. -/
theorem part_eq_zero (S Hin Win Ci Cm : ℕ) (Wu Wc : W4) (x : Img) (A i P w o : ℕ)
    (h : ∀ p d, ¬ sel S A P p d) : part S Hin Win Ci Cm Wu Wc x A i P w o = 0 := by
  unfold part band comp
  simp [ind_neg (h _ _)]

/-- A shift out of the image contributes nothing. -/
theorem part_eq_zero_of_row (S Hin Win Ci Cm : ℕ) (Wu Wc : W4) (x : Img) (A i P w o : ℕ)
    (h : (A = 1 ∧ i = 0) ∨ (A = 2 ∧ Hin ≤ i + 1)) : part S Hin Win Ci Cm Wu Wc x A i P w o = 0 := by
  unfold part rowAt
  rcases h with ⟨rfl, rfl⟩ | ⟨rfl, h⟩
  · simp
  · simp [Nat.not_lt.2 h]

end Cert.Decoder

end
-- ==== Proof.Reals.lean ====
/- Extended-real arrays that hold real numbers, and the scalar operations of the decoder on them.

   `Rd2 X a` says that the array `X` of extended reals holds, at every index, the real number that `a` gives for the
   index's coordinates; likewise at the other ranks. -/
module

public import proofs.«01_k».proof.Proof.Fuse
public import Idealize.ShloMosaic.Lib.Pointwise
public import Idealize.ShloMosaic.Lib.IdealHost

@[expose] public section

noncomputable section

namespace Cert.Decoder

open Idealize.ShloMosaic

/-- A sum of real numbers, taken among the extended reals. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- A contraction of two real vectors. -/
theorem coe_dot {n : ℕ} (f g : Fin n → ℝ) :
    ∑ k : Fin n, (f k : EReal) * (g k : EReal) = ((∑ k : Fin n, f k * g k : ℝ) : EReal) := by
  rw [coe_sum]; simp only [EReal.coe_mul]

/-! ## Arrays of real numbers -/

def Rd1 {a : ℕ} {φ : FTy} (X : FVec Ideal ⟨1, ![a]⟩ φ) (f : ℕ → ℝ) : Prop :=
  ∀ i : Fin a, X (ix1 i) = ((f i : ℝ) : EReal)

def Rd2 {a b : ℕ} {φ : FTy} (X : FVec Ideal ⟨2, ![a, b]⟩ φ) (f : ℕ → ℕ → ℝ) : Prop :=
  ∀ (i : Fin a) (j : Fin b), X (ix2 i j) = ((f i j : ℝ) : EReal)

def Rd3 {a b c : ℕ} {φ : FTy} (X : FVec Ideal ⟨3, ![a, b, c]⟩ φ) (f : ℕ → ℕ → ℕ → ℝ) : Prop :=
  ∀ (i : Fin a) (j : Fin b) (k : Fin c), X (ix3 i j k) = ((f i j k : ℝ) : EReal)

def Rd4 {a b c d : ℕ} {φ : FTy} (X : FVec Ideal ⟨4, ![a, b, c, d]⟩ φ) (f : ℕ → ℕ → ℕ → ℕ → ℝ) : Prop :=
  ∀ (i : Fin a) (j : Fin b) (k : Fin c) (l : Fin d), X (ix4 i j k l) = ((f i j k l : ℝ) : EReal)

/-! ## The scalar operations -/

/-- The slope of the leaky rectifier below zero: the real number that its 32-bit literal denotes. -/
def slope : ℝ := (Ideal.ofBits .f32 0x3C23D70A#32).toReal

theorem ofBits_slope : Ideal.ofBits .f32 0x3C23D70A#32 = ((slope : ℝ) : EReal) := by
  refine (EReal.coe_toReal ?_ ?_).symm <;> simp [Ideal.ofBits, Ideal.ieee, -EReal.coe_mul]

/-- The leaky rectifier. -/
def leaky (x : ℝ) : ℝ := if 0 ≤ x then x else slope * x

/-- The leaky rectifier as both programs write it. -/
theorem leaky_eq (x : ℝ) :
    (if (0 : EReal) ≤ ((x : ℝ) : EReal) then ((x : ℝ) : EReal)
      else Ideal.ofBits .f32 0x3C23D70A#32 * ((x : ℝ) : EReal)) = ((leaky x : ℝ) : EReal) := by
  rw [ofBits_slope]
  unfold leaky
  by_cases h : (0 : ℝ) ≤ x
  · rw [if_pos h, if_pos (EReal.coe_nonneg.2 h)]
  · rw [if_neg h, if_neg (fun h' => h (EReal.coe_nonneg.1 h')), EReal.coe_mul]

/-- The rectifier. -/
theorem relu_eq (x : ℝ) : max ((x : ℝ) : EReal) 0 = ((max x 0 : ℝ) : EReal) :=
  (EReal.coe_strictMono.monotone.map_max (a := x) (b := 0)).symm

/-! ## The decoder -/

/-- The decoder's parameters and its batch of latent vectors, as real numbers. -/
structure Net where
  lat : ℕ → ℕ → ℝ
  Wl : ℕ → ℕ → ℝ
  bl : ℕ → ℝ
  Wu1 : W4
  bu1 : ℕ → ℝ
  Wc1 : W4
  bc1 : ℕ → ℝ
  Wu2 : W4
  bu2 : ℕ → ℝ
  Wc2 : W4
  bc2 : ℕ → ℝ
  Wu3 : W4
  bu3 : ℕ → ℝ
  Wc3 : W4
  bc3 : ℕ → ℝ

namespace Net

variable (N : Net)

/-- Batch element `n` after the linear layer: one row of 8 pixels with 32 channels. -/
def img0 (n : ℕ) : Img := fun _ j c =>
  leaky (∑ l : Fin 4, N.lat n l * N.Wl (c * 8 + j) l + N.bl (c * 8 + j))

/-- After the first level: 5 rows of 16 pixels with 16 channels. -/
def img1 (n : ℕ) : Img := fun h w o => leaky (level 5 1 8 32 32 N.Wu1 N.bu1 N.Wc1 N.bc1 (N.img0 n) h w o)

/-- After the second level: 25 rows of 32 pixels with 8 channels. -/
def img2 (n : ℕ) : Img := fun h w o => leaky (level 5 5 16 16 16 N.Wu2 N.bu2 N.Wc2 N.bc2 (N.img1 n) h w o)

/-- The decoded image: 50 rows of 64 pixels with 6 channels. -/
def img3 (n : ℕ) : Img := fun h w o => max (level 2 25 32 8 8 N.Wu3 N.bu3 N.Wc3 N.bc3 (N.img2 n) h w o) 0

/-- The fifteen argument arrays hold the parameters. -/
structure Of (A0 : FVec Ideal ⟨2, ![1024, 4]⟩ .f32) (A1 : FVec Ideal ⟨2, ![256, 4]⟩ .f32)
    (A2 : FVec Ideal ⟨1, ![256]⟩ .f32) (A3 : FVec Ideal ⟨4, ![5, 2, 32, 32]⟩ .f32) (A4 : FVec Ideal ⟨1, ![32]⟩ .f32)
    (A5 : FVec Ideal ⟨4, ![3, 3, 32, 16]⟩ .f32) (A6 : FVec Ideal ⟨1, ![16]⟩ .f32)
    (A7 : FVec Ideal ⟨4, ![5, 2, 16, 16]⟩ .f32) (A8 : FVec Ideal ⟨1, ![16]⟩ .f32)
    (A9 : FVec Ideal ⟨4, ![3, 3, 16, 8]⟩ .f32) (A10 : FVec Ideal ⟨1, ![8]⟩ .f32)
    (A11 : FVec Ideal ⟨4, ![2, 2, 8, 8]⟩ .f32) (A12 : FVec Ideal ⟨1, ![8]⟩ .f32)
    (A13 : FVec Ideal ⟨4, ![3, 3, 8, 6]⟩ .f32) (A14 : FVec Ideal ⟨1, ![6]⟩ .f32) : Prop where
  lat : Rd2 A0 N.lat
  Wl : Rd2 A1 N.Wl
  bl : Rd1 A2 N.bl
  Wu1 : Rd4 A3 N.Wu1
  bu1 : Rd1 A4 N.bu1
  Wc1 : Rd4 A5 N.Wc1
  bc1 : Rd1 A6 N.bc1
  Wu2 : Rd4 A7 N.Wu2
  bu2 : Rd1 A8 N.bu2
  Wc2 : Rd4 A9 N.Wc2
  bc2 : Rd1 A10 N.bc2
  Wu3 : Rd4 A11 N.Wu3
  bu3 : Rd1 A12 N.bu3
  Wc3 : Rd4 A13 N.Wc3
  bc3 : Rd1 A14 N.bc3

end Net

end Cert.Decoder

end
-- ==== Proof.Finite.lean ====
module

public import proofs.«01_k».proof.Proof.Reals
public import proofs.«01_k».proof.Pre_finite
public import Idealize.ShloMosaic.Lib.ReduceAll
public import Idealize.ShloMosaic.Lib.WordCmp

/-!
# Finite arguments are real parameters

The precondition says that every element of every argument has an absolute value below infinity.
Such an element is a real number, so the arguments hold the parameters of a decoder of real numbers.
-/

@[expose] public section

noncomputable section
namespace Cert.Decoder
open Idealize.ShloMosaic

/-- The bound's literal is infinity. -/
theorem ofBits_top : Ideal.ofBits .f32 0x7F800000#32 = (⊤ : EReal) := by
  simp [Ideal.ofBits, Ideal.ieee]

/-- An element whose absolute value is below infinity is a real number. -/
theorem coe_of_abs_lt (x : EReal) (h : max x (-x) < ⊤) : x = ((x.toReal : ℝ) : EReal) := by
  have h1 := (max_lt_iff.1 h).1.ne
  have h2 : x ≠ ⊥ := by
    rintro rfl
    simp at h
  exact (EReal.coe_toReal h1 h2).symm

/-- One argument's conjunct of the precondition: the argument's elements are real numbers. -/
theorem real_of_all {s : Shape} {axes : List (Fin s.rank)} (x : FVec Ideal s .f32)
    (hb : Cert.Pre_finite.S_.BroadcastsInDim s (![] : Fin 0 → Fin s.rank)) (hr : s.ReducesTo axes Cert.Pre_finite.S_)
    (hu : 0 < Cert.Pre_finite.S_.numel) (j : Cert.Pre_finite.S_.Idx)
    (e : Host.reduce IntOp.andi (cmpf .olt (Host.absf x)
      (broadcastInDim s ![] hb (constant Cert.Pre_finite.S_ .f32 0x7F800000#32)))
      (constantI Cert.Pre_finite.S_ 1 1#1) hr hu j = 1#1) (i : s.Idx) :
    x i = (((x i : EReal).toReal : ℝ) : EReal) := by
  haveI : Subsingleton Cert.Pre_finite.S_.Idx := ⟨fun a b => funext fun k => k.elim0⟩
  have h := Host.reduce_andi_all _ _ _ _ j e i
  refine coe_of_abs_lt _ ?_
  have h' : Ideal.cmp .olt (max (x i : EReal) (-(x i : EReal))) (Ideal.ofBits .f32 0x7F800000#32) = 1#1 := h
  rw [ofBits_top] at h'
  by_contra hn
  simp [Ideal.cmp, hn] at h'

/-- An array of real numbers as a function of natural numbers, rank 1. -/
def nat1 {a : ℕ} (X : FVec Ideal ⟨1, ![a]⟩ .f32) (i : ℕ) : ℝ :=
  if h : i < a then (X (ix1 ⟨i, h⟩) : EReal).toReal else 0
/-- Rank 2. -/
def nat2 {a b : ℕ} (X : FVec Ideal ⟨2, ![a, b]⟩ .f32) (i j : ℕ) : ℝ :=
  if h : i < a ∧ j < b then (X (ix2 ⟨i, h.1⟩ ⟨j, h.2⟩) : EReal).toReal else 0
/-- Rank 4. -/
def nat4 {a b c d : ℕ} (X : FVec Ideal ⟨4, ![a, b, c, d]⟩ .f32) (i j k l : ℕ) : ℝ :=
  if h : (i < a ∧ j < b) ∧ k < c ∧ l < d then
    (X (ix4 ⟨i, h.1.1⟩ ⟨j, h.1.2⟩ ⟨k, h.2.1⟩ ⟨l, h.2.2⟩) : EReal).toReal else 0

theorem rd_nat1 {a : ℕ} {X : FVec Ideal ⟨1, ![a]⟩ .f32}
    (h : ∀ i, X i = (((X i : EReal).toReal : ℝ) : EReal)) : Rd1 X (nat1 X) := by
  intro i
  unfold nat1
  rw [dif_pos i.isLt]
  exact h _
theorem rd_nat2 {a b : ℕ} {X : FVec Ideal ⟨2, ![a, b]⟩ .f32}
    (h : ∀ i, X i = (((X i : EReal).toReal : ℝ) : EReal)) : Rd2 X (nat2 X) := by
  intro i j
  unfold nat2
  rw [dif_pos ⟨i.isLt, j.isLt⟩]
  exact h _
theorem rd_nat4 {a b c d : ℕ} {X : FVec Ideal ⟨4, ![a, b, c, d]⟩ .f32}
    (h : ∀ i, X i = (((X i : EReal).toReal : ℝ) : EReal)) : Rd4 X (nat4 X) := by
  intro i j k l
  unfold nat4
  rw [dif_pos ⟨⟨i.isLt, j.isLt⟩, k.isLt, l.isLt⟩]
  exact h _

/-- Arguments that meet the precondition hold the parameters of a decoder of real numbers. -/
theorem net_of_finite [Cert.Pre_finite.Facts] (A0 : FVec Ideal ⟨2, ![1024, 4]⟩ .f32)
    (A1 : FVec Ideal ⟨2, ![256, 4]⟩ .f32)
    (A2 : FVec Ideal ⟨1, ![256]⟩ .f32)
    (A3 : FVec Ideal ⟨4, ![5, 2, 32, 32]⟩ .f32)
    (A4 : FVec Ideal ⟨1, ![32]⟩ .f32)
    (A5 : FVec Ideal ⟨4, ![3, 3, 32, 16]⟩ .f32)
    (A6 : FVec Ideal ⟨1, ![16]⟩ .f32)
    (A7 : FVec Ideal ⟨4, ![5, 2, 16, 16]⟩ .f32)
    (A8 : FVec Ideal ⟨1, ![16]⟩ .f32)
    (A9 : FVec Ideal ⟨4, ![3, 3, 16, 8]⟩ .f32)
    (A10 : FVec Ideal ⟨1, ![8]⟩ .f32)
    (A11 : FVec Ideal ⟨4, ![2, 2, 8, 8]⟩ .f32)
    (A12 : FVec Ideal ⟨1, ![8]⟩ .f32)
    (A13 : FVec Ideal ⟨4, ![3, 3, 8, 6]⟩ .f32)
    (A14 : FVec Ideal ⟨1, ![6]⟩ .f32)
    (h : Cert.Pre_finite.fn (F := Ideal) A0 A1 A2 A3 A4 A5 A6 A7 A8 A9 A10 A11 A12 A13 A14 = fun _ => 1#1) :
    ∃ N : Net, N.Of A0 A1 A2 A3 A4 A5 A6 A7 A8 A9 A10 A11 A12 A13 A14 := by
  have h := congrFun h (fun k => k.elim0)
  unfold Cert.Pre_finite.fn Cert.Pre_finite.fn_part1 Cert.Pre_finite.fn_part2 Cert.Pre_finite.fn_part3
    Cert.Pre_finite.fn_part4 at h
  dsimp only at h
  simp only [WordCmp.andi_at, IntOp.andi_eq_one] at h
  obtain ⟨⟨⟨⟨⟨⟨⟨⟨⟨⟨⟨⟨⟨⟨⟨_, h0⟩, h1⟩, h2⟩, h3⟩, h4⟩, h5⟩, h6⟩, h7⟩, h8⟩, h9⟩, h10⟩, h11⟩, h12⟩, h13⟩, h14⟩ := h
  exact ⟨⟨nat2 A0, nat2 A1, nat1 A2, nat4 A3, nat1 A4, nat4 A5, nat1 A6, nat4 A7, nat1 A8, nat4 A9, nat1 A10, nat4 A11, nat1 A12, nat4 A13, nat1 A14⟩,
    ⟨rd_nat2 (real_of_all _ _ _ _ _ h0), rd_nat2 (real_of_all _ _ _ _ _ h1), rd_nat1 (real_of_all _ _ _ _ _ h2), rd_nat4 (real_of_all _ _ _ _ _ h3), rd_nat1 (real_of_all _ _ _ _ _ h4), rd_nat4 (real_of_all _ _ _ _ _ h5), rd_nat1 (real_of_all _ _ _ _ _ h6), rd_nat4 (real_of_all _ _ _ _ _ h7), rd_nat1 (real_of_all _ _ _ _ _ h8), rd_nat4 (real_of_all _ _ _ _ _ h9), rd_nat1 (real_of_all _ _ _ _ _ h10), rd_nat4 (real_of_all _ _ _ _ _ h11), rd_nat1 (real_of_all _ _ _ _ _ h12), rd_nat4 (real_of_all _ _ _ _ _ h13), rd_nat1 (real_of_all _ _ _ _ _ h14)⟩⟩

end Cert.Decoder
-- ==== Proof.RefValue.lean ====
/- The reference's result at an index: the decoder of real numbers (`Net.img3`).

   Each theorem reads one named term of the reference's run at an index and finds the real number that the model
   gives there, layer by layer. -/
module

public import proofs.«01_k».proof.Proof.Reals
public import proofs.«01_k».proof.Proof.Gen.ReferenceIdeal.Run

@[expose] public section

set_option maxRecDepth 16384

noncomputable section

namespace Cert.Decoder

open Idealize.ShloMosaic Idealize.ShloMosaic.StableHlo
open Cert.ReferenceIdeal Cert.ReferenceIdeal.Gen Cert.ReferenceIdeal.Value

/-- The reference's fifteen arguments, as the launch finds them, hold the parameters `N`. -/
abbrev RefOf (N : Net) (V : Valuation τ sig (Elt Ideal)) : Prop :=
  N.Of (V (Proc.devRef .tc main_arg0)) (V (Proc.devRef .tc main_arg1)) (V (Proc.devRef .tc main_arg2))
    (V (Proc.devRef .tc main_arg3)) (V (Proc.devRef .tc main_arg4)) (V (Proc.devRef .tc main_arg5))
    (V (Proc.devRef .tc main_arg6)) (V (Proc.devRef .tc main_arg7)) (V (Proc.devRef .tc main_arg8))
    (V (Proc.devRef .tc main_arg9)) (V (Proc.devRef .tc main_arg10)) (V (Proc.devRef .tc main_arg11))
    (V (Proc.devRef .tc main_arg12)) (V (Proc.devRef .tc main_arg13)) (V (Proc.devRef .tc main_arg14))

/-- The padding value both programs of this kind write: the integer zero, as a float. -/
theorem pad_zero : (FloatOps.sitofp (F := Ideal) .f32 (0#32 : BitVec 32)) = (((0 : ℝ)) : EReal) := by
  simp [FloatOps.sitofp]

/-- One pixel of the padded unpooled image, as it is read off the reference: the pixel's value where it lies inside
    the frame, zero on the frame. -/
theorem up_pixel (S Hin Win Ci : ℕ) (Wu : W4) (bu : ℕ → ℝ) (x : Img) (i j k : ℕ) (c : Prop) [Decidable c]
    (hc : c ↔ (1 ≤ i ∧ i - 1 < S * Hin) ∧ 1 ≤ j ∧ j - 1 < 2 * Win) (A : c → EReal)
    (hA : ∀ h, A h = ((up S Ci Wu bu x (i - 1) (j - 1) k : ℝ) : EReal)) :
    (if h : c then A h else FloatOps.sitofp (F := Ideal) .f32 (0#32 : BitVec 32))
      = ((padded (S * Hin) (2 * Win) (up S Ci Wu bu x) i j k : ℝ) : EReal) := by
  unfold padded
  by_cases h : c
  · have h' := hc.1 h
    rw [dif_pos h, hA h, if_pos (by omega)]
  · rw [dif_neg h, pad_zero, if_neg (fun h' => h (hc.2 (by omega)))]

/-- One pixel of a convolution, as it is read off the reference: the bias and nine contractions. -/
theorem conv_pixel (Cm : ℕ) (Wc : W4) (bc : ℕ → ℝ) (u : Img) (i j k : ℕ) :
    ((bc k : ℝ) : EReal)
      + ((∑ m : Fin Cm, u i j m * Wc 0 0 m k : ℝ) : EReal)
      + ((∑ m : Fin Cm, u i (1 + j) m * Wc 0 1 m k : ℝ) : EReal)
      + ((∑ m : Fin Cm, u i (2 + j) m * Wc 0 2 m k : ℝ) : EReal)
      + ((∑ m : Fin Cm, u (1 + i) j m * Wc 1 0 m k : ℝ) : EReal)
      + ((∑ m : Fin Cm, u (1 + i) (1 + j) m * Wc 1 1 m k : ℝ) : EReal)
      + ((∑ m : Fin Cm, u (1 + i) (2 + j) m * Wc 1 2 m k : ℝ) : EReal)
      + ((∑ m : Fin Cm, u (2 + i) j m * Wc 2 0 m k : ℝ) : EReal)
      + ((∑ m : Fin Cm, u (2 + i) (1 + j) m * Wc 2 1 m k : ℝ) : EReal)
      + ((∑ m : Fin Cm, u (2 + i) (2 + j) m * Wc 2 2 m k : ℝ) : EReal)
      = ((conv Cm Wc bc u i j k : ℝ) : EReal) := by
  simp only [← EReal.coe_add, EReal.coe_eq_coe_iff]
  unfold conv
  simp only [Fin.sum_univ_three, Fin.val_zero, Fin.val_one, Fin.val_two, Nat.add_zero, Nat.add_comm i, Nat.add_comm j]
  simp only [Nat.zero_add]
  ring

variable {N : Net} {V : Valuation τ sig (Elt Ideal)} (hN : RefOf N V)
include hN

/-- The linear layer before its rectifier. -/
theorem ref_v4 : Rd2 (a := 1024) (b := 256) (φ := .f32) (res_main_v4 V)
    (fun n k => ∑ l : Fin 4, N.lat n l * N.Wl k l + N.bl k) := by
  intro n k
  unfold res_main_v4
  pointwise
  have e (l : Fin 4) := hN.lat n l
  have e1 (l : Fin 4) := hN.Wl k l
  have e2 := hN.bl k
  simp only [e, e1, e2, coe_dot, ← EReal.coe_add]

/-- The first level's unpooled image in its frame. -/
theorem ref_v19 : Rd4 (a := 1024) (b := 7) (c := 18) (d := 32) (φ := .f32) (res_main_v19 V)
    (fun n => padded (5 * 1) (2 * 8) (up 5 32 N.Wu1 N.bu1 (N.img0 n))) := by
  intro n i j k
  unfold res_main_v19
  pointwise
  have e := ref_v4 hN
  have eW := hN.Wu1
  have eb := hN.bu1
  unfold Rd2 at e
  unfold Rd4 at eW
  unfold Rd1 at eb
  refine up_pixel 5 1 8 32 N.Wu1 N.bu1 (N.img0 n) i j k _ Iff.rfl _ fun h => ?_
  simp only [e, leaky_eq, eb]
  unfold up Net.img0
  rw [EReal.coe_add, coe_sum]
  refine congrArg (· + _) (Finset.sum_congr rfl fun c _ => ?_)
  rw [mul_comm, EReal.coe_mul]
  exact congrArg (_ * ·) ((eW _ _ _ _).trans (by simp [Fin.val_rev, Nat.mod_eq_of_lt (show (i : ℕ) - 1 < 5 by omega)]))

/-- The first level before its rectifier. -/
theorem ref_v66 : Rd4 (a := 1024) (b := 5) (c := 16) (d := 16) (φ := .f32) (res_main_v66 V)
    (fun n => level 5 1 8 32 32 N.Wu1 N.bu1 N.Wc1 N.bc1 (N.img0 n)) := by
  intro n i j k
  unfold res_main_v66
  pointwise
  have e := ref_v19 hN
  have eW := hN.Wc1
  have eb := hN.bc1
  unfold Rd4 at e eW
  unfold Rd1 at eb
  simp only [e, eW, eb, coe_dot]
  exact conv_pixel ..

/-- The second level's unpooled image in its frame. -/
theorem ref_v79 : Rd4 (a := 1024) (b := 27) (c := 34) (d := 16) (φ := .f32) (res_main_v79 V)
    (fun n => padded (5 * 5) (2 * 16) (up 5 16 N.Wu2 N.bu2 (N.img1 n))) := by
  intro n i j k
  unfold res_main_v79
  pointwise
  have e := ref_v66 hN
  have eW := hN.Wu2
  have eb := hN.bu2
  unfold Rd4 at e eW
  unfold Rd1 at eb
  refine up_pixel 5 5 16 16 N.Wu2 N.bu2 (N.img1 n) i j k _ Iff.rfl _ fun h => ?_
  simp only [e, leaky_eq, eb]
  unfold up Net.img1
  rw [EReal.coe_add, coe_sum]
  refine congrArg (· + _) (Finset.sum_congr rfl fun c _ => ?_)
  rw [mul_comm, EReal.coe_mul]
  exact congrArg (_ * ·) ((eW _ _ _ _).trans (by simp [Fin.val_rev]))

/-- The second level before its rectifier. -/
theorem ref_v126 : Rd4 (a := 1024) (b := 25) (c := 32) (d := 8) (φ := .f32) (res_main_v126 V)
    (fun n => level 5 5 16 16 16 N.Wu2 N.bu2 N.Wc2 N.bc2 (N.img1 n)) := by
  intro n i j k
  unfold res_main_v126
  pointwise
  have e := ref_v79 hN
  have eW := hN.Wc2
  have eb := hN.bc2
  unfold Rd4 at e eW
  unfold Rd1 at eb
  simp only [e, eW, eb, coe_dot]
  exact conv_pixel ..

/-- The third level's unpooled image in its frame. -/
theorem ref_v139 : Rd4 (a := 1024) (b := 52) (c := 66) (d := 8) (φ := .f32) (res_main_v139 V)
    (fun n => padded (2 * 25) (2 * 32) (up 2 8 N.Wu3 N.bu3 (N.img2 n))) := by
  intro n i j k
  unfold res_main_v139
  pointwise
  have e := ref_v126 hN
  have eW := hN.Wu3
  have eb := hN.bu3
  unfold Rd4 at e eW
  unfold Rd1 at eb
  refine up_pixel 2 25 32 8 N.Wu3 N.bu3 (N.img2 n) i j k _ Iff.rfl _ fun h => ?_
  simp only [e, leaky_eq, eb]
  unfold up Net.img2
  rw [EReal.coe_add, coe_sum]
  refine congrArg (· + _) (Finset.sum_congr rfl fun c _ => ?_)
  rw [mul_comm, EReal.coe_mul]
  exact congrArg (_ * ·) ((eW _ _ _ _).trans (by simp [Fin.val_rev]))

/-- The reference's result: the decoded image, channels first. -/
theorem ref_value : Rd4 (a := 1024) (b := 6) (c := 50) (d := 64) (φ := .f32) (val4 V (Proc.devRef .tc main_v189))
    (fun n o h w => N.img3 n h w o) := by
  intro n o h w
  rw [show val4 V (Proc.devRef .tc main_v189) = _ from val4_main_v189 V]
  pointwise
  have e := ref_v139 hN
  have eW := hN.Wc3
  have eb := hN.bc3
  unfold Rd4 at e eW
  unfold Rd1 at eb
  simp only [e, eW, eb, coe_dot]
  unfold Net.img3
  rw [← relu_eq]
  exact congrArg (max · 0) (conv_pixel ..)

end Cert.Decoder

end
-- ==== Proof.RefRun.lean ====
module

public import proofs.«01_k».proof.Proof.RefValue

/-!
# The reference's run

The reference ends with its arguments unchanged and the decoder's images as its result.
-/

@[expose] public section

noncomputable section
namespace Cert.Decoder
open Idealize.ShloMosaic Idealize.ShloMosaic.StableHlo
open Cert.ReferenceIdeal Cert.ReferenceIdeal.Gen Cert.ReferenceIdeal.Value

/-- Arrays equal to arrays that hold the parameters hold them too. -/
theorem Net.Of.of_eq {N : Net} {A0 : FVec Ideal ⟨2, ![1024, 4]⟩ .f32} {A1 : FVec Ideal ⟨2, ![256, 4]⟩ .f32}
    {A2 : FVec Ideal ⟨1, ![256]⟩ .f32} {A3 : FVec Ideal ⟨4, ![5, 2, 32, 32]⟩ .f32}
    {A4 : FVec Ideal ⟨1, ![32]⟩ .f32} {A5 : FVec Ideal ⟨4, ![3, 3, 32, 16]⟩ .f32}
    {A6 : FVec Ideal ⟨1, ![16]⟩ .f32} {A7 : FVec Ideal ⟨4, ![5, 2, 16, 16]⟩ .f32}
    {A8 : FVec Ideal ⟨1, ![16]⟩ .f32} {A9 : FVec Ideal ⟨4, ![3, 3, 16, 8]⟩ .f32}
    {A10 : FVec Ideal ⟨1, ![8]⟩ .f32} {A11 : FVec Ideal ⟨4, ![2, 2, 8, 8]⟩ .f32}
    {A12 : FVec Ideal ⟨1, ![8]⟩ .f32} {A13 : FVec Ideal ⟨4, ![3, 3, 8, 6]⟩ .f32}
    {A14 : FVec Ideal ⟨1, ![6]⟩ .f32}
    {B0 : FVec Ideal ⟨2, ![1024, 4]⟩ .f32} {B1 : FVec Ideal ⟨2, ![256, 4]⟩ .f32}
    {B2 : FVec Ideal ⟨1, ![256]⟩ .f32} {B3 : FVec Ideal ⟨4, ![5, 2, 32, 32]⟩ .f32}
    {B4 : FVec Ideal ⟨1, ![32]⟩ .f32} {B5 : FVec Ideal ⟨4, ![3, 3, 32, 16]⟩ .f32}
    {B6 : FVec Ideal ⟨1, ![16]⟩ .f32} {B7 : FVec Ideal ⟨4, ![5, 2, 16, 16]⟩ .f32}
    {B8 : FVec Ideal ⟨1, ![16]⟩ .f32} {B9 : FVec Ideal ⟨4, ![3, 3, 16, 8]⟩ .f32}
    {B10 : FVec Ideal ⟨1, ![8]⟩ .f32} {B11 : FVec Ideal ⟨4, ![2, 2, 8, 8]⟩ .f32}
    {B12 : FVec Ideal ⟨1, ![8]⟩ .f32} {B13 : FVec Ideal ⟨4, ![3, 3, 8, 6]⟩ .f32}
    {B14 : FVec Ideal ⟨1, ![6]⟩ .f32}
    (h : N.Of A0 A1 A2 A3 A4 A5 A6 A7 A8 A9 A10 A11 A12 A13 A14)
    (e0 : B0 = A0) (e1 : B1 = A1) (e2 : B2 = A2) (e3 : B3 = A3) (e4 : B4 = A4) (e5 : B5 = A5) (e6 : B6 = A6) (e7 : B7 = A7)
    (e8 : B8 = A8) (e9 : B9 = A9) (e10 : B10 = A10) (e11 : B11 = A11) (e12 : B12 = A12) (e13 : B13 = A13) (e14 : B14 = A14) :
    N.Of B0 B1 B2 B3 B4 B5 B6 B7 B8 B9 B10 B11 B12 B13 B14 := by
  subst e0 e1 e2 e3 e4 e5 e6 e7 e8 e9 e10 e11 e12 e13 e14
  exact h

/-- All images, as one array. -/
def Net.images (N : Net) : FVec Ideal ⟨4, ![1024, 6, 50, 64]⟩ .f32 :=
  fun y => ((N.img3 (y 0) (y 2) (y 3) (y 1) : ℝ) : EReal)

/-- An array read at every index as the images is the array of images. -/
theorem images_of_rd4 {N : Net} {X : FVec Ideal ⟨4, ![1024, 6, 50, 64]⟩ .f32}
    (h : Rd4 X (fun n o h w => N.img3 n h w o)) : X = N.images := by
  funext y
  have e : y = ix4 (y 0) (y 1) (y 2) (y 3) := by
    funext k
    fin_cases k <;> rfl
  rw [e]
  exact h _ _ _ _

/-- The reference's run: its result is the images, its arguments are unchanged and no counter is left raised. -/
theorem ref_run (m : (ℓ : Loc nD τ sig) → Buf (Elt Ideal) ℓ) (ρ : Dev nD → PrngReg) (N : Dev nD → Net)
    (hN : ∀ c, RefOf (N c) (launchContents m c)) :
    θ_run defs (onTc (τ := τ) (main (F := Ideal))) ⟨m, fun _ => 0, ρ⟩ fun r => ∀ c : Dev nD,
      r.2.mem ((c.tc : Thread nD τ).loc main_v189) = (N c).images
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨((h c).1.trans (val4_main_v189 (launchContents m c)).symm).trans
    (images_of_rd4 (ref_value (hN c))), (h c).2⟩) (run m ρ)

end Cert.Decoder
-- ==== Proof.Rows.lean ====
module

public import proofs.«01_k».proof.Proof.Reals

@[expose] public section

/-!
# The rows a grid step computes

Over the reals: the linear layer, the two scratch buffers and the output block of one grid step, each
a list of image rows with one matrix row per sample.
-/

noncomputable section
namespace Cert.Decoder

/-- The linear layer: sample `r`, column `k`. -/
def linear (l W bl : ℕ → ℕ → ℝ) (r k : ℕ) : ℝ := leaky (∑ j : Fin 4, l r j * W j k + bl 0 k)

/-- The first scratch buffer: row `h` of level 1 for sample `r`, with zeros above and below. The
rows of the map below are one pixel high, so only the middle band is used. -/
def rowA (X : ℕ → ℕ → ℝ) (b a : ℕ → ℕ → ℕ → ℝ) (h r J : ℕ) : ℝ :=
  if 1 ≤ h ∧ h ≤ 5 then leaky (∑ k : Fin 256, X r k * b (h - 1) k J + a (h - 1) 0 J) else 0

/-- The second scratch buffer: row `h` of level 2, with zeros above and below. Each row of level 1
gives five rows; the first also sees the row above it, the last the row below it. -/
def rowB (X : ℕ → ℕ → ℕ → ℝ) (b : W4) (a : ℕ → ℕ → ℕ → ℝ) (h r J : ℕ) : ℝ :=
  if 1 ≤ h ∧ h ≤ 25 then leaky (∑ k : Fin 256, X (1 + (h - 1) / 5) r k * b 0 ((h - 1) % 5) k J
    + (if (h - 1) % 5 = 0 then ∑ k : Fin 256, X ((h - 1) / 5) r k * b 1 0 k J else 0)
    + (if (h - 1) % 5 = 4 then ∑ k : Fin 256, X (2 + (h - 1) / 5) r k * b 2 4 k J else 0) + a (h - 1) 0 J) else 0

/-- The output block: row `h` of level 3. Each row of level 2 gives two rows; the first also sees
the row above it, the second the row below it. -/
def rowC (X : ℕ → ℕ → ℕ → ℝ) (b : W4) (a : ℕ → ℕ → ℕ → ℝ) (h r J : ℕ) : ℝ :=
  max (∑ k : Fin 256, X (1 + h / 2) r k * b 0 (h % 2) k J
    + (if h % 2 = 0 then ∑ k : Fin 256, X (h / 2) r k * b 1 0 k J
      else ∑ k : Fin 256, X (2 + h / 2) r k * b 2 1 k J) + a h 0 J) 0

end Cert.Decoder
end
-- ==== Proof.Levels.lean ====
module

public import proofs.«01_k».proof.Proof.Rows
public import Idealize.ShloMosaic.Lib.Pipeline.ValueKit.Acc

@[expose] public section

/-!
# The rows of a grid step are the rows of the decoder's images

With the banded matrices and the bias images of the decoder's parameters (`Net.B1` to `Net.A3`), the
three lists of rows that a grid step computes are the decoder's three images of its samples: the
columns of a matrix row are (pixel, channel) pairs, on level 3 (channel, pixel) pairs.
-/

noncomputable section
namespace Cert.Decoder

/-- A product with a banded matrix, its rows split into (pixel, channel), is one shift's part of a
fine pixel. -/
theorem dot_part (S Hin Win Ci Cm : ℕ) (Wu Wc : W4) (x : Img) (A i P w o : ℕ) (Y : ℕ → ℝ)
    (hY : ∀ k < Win * Ci, Y k = rowAt Hin (fun r (k : ℕ × ℕ) => x r k.1 k.2) A i (k / Ci, k % Ci)) :
    ∑ k : Fin (Win * Ci), Y k * band S Cm Wu Wc A P (k / Ci) (k % Ci) w o
      = part S Hin Win Ci Cm Wu Wc x A i P w o := by
  unfold part
  rw [← Fin.sum_univ_mul_divmod Win Ci (fun j c =>
    rowAt Hin (fun r (k : ℕ × ℕ) => x r k.1 k.2) A i (j, c) * band S Cm Wu Wc A P j c w o)]
  exact Finset.sum_congr rfl fun k _ => by rw [hY k k.isLt]

namespace Net
variable (N : Net)

/-- The linear layer's matrix, its columns in (pixel, channel) order. -/
def W0 (j k : ℕ) : ℝ := N.Wl (k % 32 * 8 + k / 32) j
/-- The linear layer's bias, in the same order. -/
def b0 (_ k : ℕ) : ℝ := N.bl (k % 32 * 8 + k / 32)
/-- Level 1's banded matrices, one per row phase (its map is one row high: the middle shift only). -/
def B1 (P k J : ℕ) : ℝ := band 5 32 N.Wu1 N.Wc1 0 P (k / 32) (k % 32) (J / 16) (J % 16)
/-- Level 1's bias rows. -/
def A1 (h _ J : ℕ) : ℝ := bias 5 16 32 N.bu1 N.Wc1 N.bc1 h (J / 16) (J % 16)
/-- Level 2's banded matrices, per row shift and row phase. -/
def B2 (A P k J : ℕ) : ℝ := band 5 16 N.Wu2 N.Wc2 A P (k / 16) (k % 16) (J / 8) (J % 8)
/-- Level 2's bias rows. -/
def A2 (h _ J : ℕ) : ℝ := bias 25 32 16 N.bu2 N.Wc2 N.bc2 h (J / 8) (J % 8)
/-- Level 3's banded matrices, their columns in (channel, pixel) order. -/
def B3 (A P k J : ℕ) : ℝ := band 2 8 N.Wu3 N.Wc3 A P (k / 8) (k % 8) (J % 64) (J / 64)
/-- Level 3's bias rows. -/
def A3 (h _ J : ℕ) : ℝ := bias 50 64 8 N.bu3 N.Wc3 N.bc3 h (J % 64) (J / 64)

/-- The first scratch buffer for samples `n r`. -/
def SA (n : ℕ → ℕ) (h r k : ℕ) : ℝ :=
  if 1 ≤ h ∧ h ≤ 5 then N.img1 (n r) (h - 1) (k / 16) (k % 16) else 0
/-- The second scratch buffer. -/
def SB (n : ℕ → ℕ) (h r k : ℕ) : ℝ :=
  if 1 ≤ h ∧ h ≤ 25 then N.img2 (n r) (h - 1) (k / 8) (k % 8) else 0

/-- The linear layer's row is the first map. -/
theorem linear_eq (n : ℕ → ℕ) (r k : ℕ) :
    linear (fun r => N.lat (n r)) N.W0 N.b0 r k = N.img0 (n r) 0 (k / 32) (k % 32) := rfl

/-- Level 1's rows. -/
theorem rowA_eq (n : ℕ → ℕ) (h r J : ℕ) (hJ : J < 256) :
    rowA (linear (fun r => N.lat (n r)) N.W0 N.b0) N.B1 N.A1 h r J = N.SA n h r J := by
  unfold rowA SA
  split
  · rename_i hh
    have e := kern_eq_level 5 1 8 32 32 N.Wu1 N.bu1 N.Wc1 N.bc1 (N.img0 (n r)) 0 (h - 1) (J / 16) (J % 16)
      (by omega) (by omega) (by omega)
    rw [show 5 * 0 + (h - 1) = h - 1 by omega] at e
    unfold img1
    rw [← e]
    unfold kern
    rw [Fin.sum_univ_three, ← dot_part 5 1 8 32 32 N.Wu1 N.Wc1 (N.img0 (n r)) ((0 : Fin 3) : ℕ) 0 (h - 1) _ _
        (linear (fun r => N.lat (n r)) N.W0 N.b0 r) (fun k _ => by simp [rowAt, linear_eq]),
      part_eq_zero_of_row _ _ _ _ _ _ _ _ ((1 : Fin 3) : ℕ) _ _ _ _ (.inl ⟨rfl, rfl⟩),
      part_eq_zero_of_row _ _ _ _ _ _ _ _ ((2 : Fin 3) : ℕ) _ _ _ _ (.inr ⟨rfl, by omega⟩), add_zero, add_zero]
    rw [show 5 * 0 + (h - 1) = h - 1 by omega]
    rfl
  · rfl

/-- Level 2's rows. -/
theorem rowB_eq (n : ℕ → ℕ) (X : ℕ → ℕ → ℕ → ℝ) (hX : ∀ h r k, k < 256 → X h r k = N.SA n h r k)
    (h r J : ℕ) (hJ : J < 256) : rowB X N.B2 N.A2 h r J = N.SB n h r J := by
  unfold rowB SB
  split
  · rename_i hh
    generalize hi : (h - 1) / 5 = i
    generalize hP : (h - 1) % 5 = P
    have hh' : h - 1 = 5 * i + P := by omega
    have hP5 : P < 5 := by omega
    have hi5 : i < 5 := by omega
    have e := kern_eq_level 5 5 16 16 16 N.Wu2 N.bu2 N.Wc2 N.bc2 (N.img1 (n r)) i P (J / 8) (J % 8)
      hP5 hi5 (by omega)
    unfold img2
    rw [hh', ← e]
    unfold kern
    rw [Fin.sum_univ_three]
    congr 1
    have e0 := dot_part 5 5 16 16 16 N.Wu2 N.Wc2 (N.img1 (n r)) 0 i P (J / 8) (J % 8) (X (1 + i) r)
      (fun k hk => by rw [hX _ _ _ hk]; simp [rowAt, SA, show 1 + i ≤ 5 by omega])
    have e1 : (if P = 0 then ∑ k : Fin 256, X i r k * N.B2 1 0 k J else 0)
        = part 5 5 16 16 16 N.Wu2 N.Wc2 (N.img1 (n r)) 1 i P (J / 8) (J % 8) := by
      split
      · rename_i h0
        subst h0
        exact dot_part 5 5 16 16 16 N.Wu2 N.Wc2 (N.img1 (n r)) 1 i 0 (J / 8) (J % 8) (X i r)
          (fun k hk => by rw [hX _ _ _ hk]; simp [rowAt, SA, show i ≤ 5 by omega])
      · rw [part_eq_zero _ _ _ _ _ _ _ _ _ _ _ _ _ (fun p d => by unfold sel; omega)]
    have e2 : (if P = 4 then ∑ k : Fin 256, X (2 + i) r k * N.B2 2 4 k J else 0)
        = part 5 5 16 16 16 N.Wu2 N.Wc2 (N.img1 (n r)) 2 i P (J / 8) (J % 8) := by
      split
      · rename_i h0
        subst h0
        exact dot_part 5 5 16 16 16 N.Wu2 N.Wc2 (N.img1 (n r)) 2 i 4 (J / 8) (J % 8) (X (2 + i) r)
          (fun k hk => by
            rw [hX _ _ _ hk]
            simp [rowAt, SA, show (2 + i ≤ 5) = (i + 1 < 5) by rw [eq_iff_iff]; omega, show 2 + i - 1 = i + 1 by omega, show 1 ≤ 2 + i by omega])
      · rw [part_eq_zero _ _ _ _ _ _ _ _ _ _ _ _ _ (fun p d => by unfold sel; omega)]
    rw [e1, e2]
    exact congrArg₂ (· + ·) (congrArg₂ (· + ·) (congrArg₂ (· + ·) e0 rfl) rfl) rfl
  · rfl

/-- Level 3's rows. -/
theorem rowC_eq (n : ℕ → ℕ) (X : ℕ → ℕ → ℕ → ℝ) (hX : ∀ h r k, k < 256 → X h r k = N.SB n h r k)
    (h r J : ℕ) (hh : h < 50) (hJ : J < 384) :
    rowC X N.B3 N.A3 h r J = N.img3 (n r) h (J % 64) (J / 64) := by
  unfold rowC
  generalize hi : h / 2 = i
  generalize hP : h % 2 = P
  have hh' : h = 2 * i + P := by omega
  have hP2 : P < 2 := by omega
  have hi25 : i < 25 := by omega
  have e := kern_eq_level 2 25 32 8 8 N.Wu3 N.bu3 N.Wc3 N.bc3 (N.img2 (n r)) i P (J % 64) (J / 64)
    hP2 hi25 (by omega)
  unfold img3
  rw [hh', ← e]
  unfold kern
  rw [Fin.sum_univ_three]
  congr 1
  have e0 := dot_part 2 25 32 8 8 N.Wu3 N.Wc3 (N.img2 (n r)) 0 i P (J % 64) (J / 64) (X (1 + i) r)
    (fun k hk => by rw [hX _ _ _ hk]; simp [rowAt, SB, show 1 + i ≤ 25 by omega])
  have e12 : (if P = 0 then ∑ k : Fin 256, X i r k * N.B3 1 0 k J else ∑ k : Fin 256, X (2 + i) r k * N.B3 2 1 k J)
      = part 2 25 32 8 8 N.Wu3 N.Wc3 (N.img2 (n r)) 1 i P (J % 64) (J / 64)
        + part 2 25 32 8 8 N.Wu3 N.Wc3 (N.img2 (n r)) 2 i P (J % 64) (J / 64) := by
    split
    · rename_i h0
      subst h0
      rw [part_eq_zero _ _ _ _ _ _ _ _ 2 _ _ _ _ (fun p d => by unfold sel; omega), add_zero]
      exact dot_part 2 25 32 8 8 N.Wu3 N.Wc3 (N.img2 (n r)) 1 i 0 (J % 64) (J / 64) (X i r)
        (fun k hk => by rw [hX _ _ _ hk]; simp [rowAt, SB, show i ≤ 25 by omega])
    · obtain rfl : P = 1 := by omega
      rw [part_eq_zero _ _ _ _ _ _ _ _ 1 _ _ _ _ (fun p d => by unfold sel; omega), zero_add]
      exact dot_part 2 25 32 8 8 N.Wu3 N.Wc3 (N.img2 (n r)) 2 i 1 (J % 64) (J / 64) (X (2 + i) r)
        (fun k hk => by
          rw [hX _ _ _ hk]
          simp [rowAt, SB, show (2 + i ≤ 25) = (i + 1 < 25) by rw [eq_iff_iff]; omega, show 2 + i - 1 = i + 1 by omega, show 1 ≤ 2 + i by omega])
  rw [e12, ← add_assoc]
  exact congrArg₂ (· + ·) (congrArg₂ (· + ·) (congrArg₂ (· + ·) e0 rfl) rfl) rfl

/-- **A grid step's rows are the decoded images** of its samples. -/
theorem rows_eq (n : ℕ → ℕ) (h r J : ℕ) (hh : h < 50) (hJ : J < 384) :
    rowC (rowB (rowA (linear (fun r => N.lat (n r)) N.W0 N.b0) N.B1 N.A1) N.B2 N.A2) N.B3 N.A3 h r J
      = N.img3 (n r) h (J % 64) (J / 64) :=
  N.rowC_eq n _ (fun h r k hk => N.rowB_eq n _ (fun h r k hk => N.rowA_eq n h r k hk) h r k hk) h r J hh hJ

end Net
end Cert.Decoder
end
-- ==== Proof.Tables.lean ====
module

public import proofs.«01_k».proof.KernelIdeal
public import proofs.«01_k».proof.Proof.Reals
public import Idealize.ShloMosaic.Lib.IdealHost

@[expose] public section

/-!
# The kernel's constant tables

The kernel's host part multiplies by fifteen constant arrays of zeros and ones. Each is the table of
one of the three conditions of the mathematics: which row (or column) a tap falls on (`sel`), which
fine column a coarse column and a phase give (`shf`), and whether a tap stays inside the image
(`ins`). A sixteenth table permutes the linear layer's columns. A theorem `wordN` compares table `N`
word by word, and `tabN` reads it as a real number.
-/

set_option maxRecDepth 100000

noncomputable section
namespace Cert.Decoder
open Idealize.ShloMosaic Cert.KernelIdeal

/-- A zero or a one, as the constant's float word. -/
def bit (p : Prop) [Decidable p] : BitVec 32 := if p then 0x3F800000#32 else 0#32

/-- A table's entry as a real number. -/
theorem ofBits_bit (p : Prop) [Decidable p] : Ideal.ofBits .f32 (bit p) = ((ind p : ℝ) : EReal) := by
  unfold bit
  split
  · rename_i h
    rw [ind_pos h, Ideal.ofBits_one_f32]; rfl
  · rename_i h
    rw [ind_neg h]; simp [Ideal.ofBits, Ideal.ieee]

/-- The linear layer's columns: column `j * 32 + c` of the kernel is column `c * 8 + j` of the
problem. -/
theorem word0 : ∀ k : Fin 256, lit0 k = BitVec.ofNat 32 (k % 32 * 8 + k / 32) := by decide +kernel

theorem word1 : ∀ (p : Fin 5) (d A : Fin 3) (P : Fin 5),
    lit1 (S5x3x3x5.rowMajor (ix4 p d A P)) = bit (sel 5 A P p d) := by decide +kernel
/-- Level 1: rows' taps. -/
theorem tab1 (p : Fin 5) (d A : Fin 3) (P : Fin 5) :
    Ideal.ofBits .f32 (lit1 (S5x3x3x5.rowMajor (ix4 p d A P))) = ((ind (sel 5 A P p d) : ℝ) : EReal) := by
  rw [word1, ofBits_bit]

theorem word2 : ∀ (p : Fin 2) (d A : Fin 3) (P : Fin 2),
    lit2 (S2x3x3x2.rowMajor (ix4 p d A P)) = bit (sel 2 A P p d) := by decide +kernel
/-- Level 1: columns' taps. -/
theorem tab2 (p : Fin 2) (d A : Fin 3) (P : Fin 2) :
    Ideal.ofBits .f32 (lit2 (S2x3x3x2.rowMajor (ix4 p d A P))) = ((ind (sel 2 A P p d) : ℝ) : EReal) := by
  rw [word2, ofBits_bit]

theorem word3 : ∀ (B : Fin 3) (Q : Fin 2) (j : Fin 8) (w : Fin 16),
    lit3 (S3x2x1x1x8x1x16x1.rowMajor (ix8 B Q 0 0 j 0 w 0)) = bit (shf B Q j w) := by decide +kernel
/-- Level 1: columns' shifts and phases. -/
theorem tab3 (B : Fin 3) (Q : Fin 2) (j : Fin 8) (w : Fin 16) (a b c d : Fin 1) :
    Ideal.ofBits .f32 (lit3 (S3x2x1x1x8x1x16x1.rowMajor (ix8 B Q a b j c w d))) = ((ind (shf B Q j w) : ℝ) : EReal) := by
  rw [Fin.fin_one_eq_zero a, Fin.fin_one_eq_zero b, Fin.fin_one_eq_zero c, Fin.fin_one_eq_zero d, word3, ofBits_bit]

theorem word4 : ∀ (h : Fin 5) (d : Fin 3), lit4 (S5x1x3x1x1.rowMajor (ix5 h 0 d 0 0)) = bit (ins 5 h d) := by
  decide +kernel
/-- Level 1: taps inside the image, rows. -/
theorem tab4 (h : Fin 5) (d : Fin 3) (a b c : Fin 1) :
    Ideal.ofBits .f32 (lit4 (S5x1x3x1x1.rowMajor (ix5 h a d b c))) = ((ind (ins 5 h d) : ℝ) : EReal) := by
  rw [Fin.fin_one_eq_zero a, Fin.fin_one_eq_zero b, Fin.fin_one_eq_zero c, word4, ofBits_bit]

theorem word5 : ∀ (h : Fin 16) (d : Fin 3), lit5 (S1x16x1x3x1.rowMajor (ix5 0 h 0 d 0)) = bit (ins 16 h d) := by
  decide +kernel
/-- Level 1: taps inside the image, columns. -/
theorem tab5 (h : Fin 16) (d : Fin 3) (a b c : Fin 1) :
    Ideal.ofBits .f32 (lit5 (S1x16x1x3x1.rowMajor (ix5 a h b d c))) = ((ind (ins 16 h d) : ℝ) : EReal) := by
  rw [Fin.fin_one_eq_zero a, Fin.fin_one_eq_zero b, Fin.fin_one_eq_zero c, word5, ofBits_bit]

theorem word6 : ∀ (p : Fin 5) (d A : Fin 3) (P : Fin 5),
    lit6 (S5x3x3x5.rowMajor (ix4 p d A P)) = bit (sel 5 A P p d) := by decide +kernel
/-- Level 2: rows' taps. -/
theorem tab6 (p : Fin 5) (d A : Fin 3) (P : Fin 5) :
    Ideal.ofBits .f32 (lit6 (S5x3x3x5.rowMajor (ix4 p d A P))) = ((ind (sel 5 A P p d) : ℝ) : EReal) := by
  rw [word6, ofBits_bit]

theorem word7 : ∀ (p : Fin 2) (d A : Fin 3) (P : Fin 2),
    lit7 (S2x3x3x2.rowMajor (ix4 p d A P)) = bit (sel 2 A P p d) := by decide +kernel
/-- Level 2: columns' taps. -/
theorem tab7 (p : Fin 2) (d A : Fin 3) (P : Fin 2) :
    Ideal.ofBits .f32 (lit7 (S2x3x3x2.rowMajor (ix4 p d A P))) = ((ind (sel 2 A P p d) : ℝ) : EReal) := by
  rw [word7, ofBits_bit]

theorem word9 : ∀ (h : Fin 25) (d : Fin 3), lit9 (S25x1x3x1x1.rowMajor (ix5 h 0 d 0 0)) = bit (ins 25 h d) := by
  decide +kernel
/-- Level 2: taps inside the image, rows. -/
theorem tab9 (h : Fin 25) (d : Fin 3) (a b c : Fin 1) :
    Ideal.ofBits .f32 (lit9 (S25x1x3x1x1.rowMajor (ix5 h a d b c))) = ((ind (ins 25 h d) : ℝ) : EReal) := by
  rw [Fin.fin_one_eq_zero a, Fin.fin_one_eq_zero b, Fin.fin_one_eq_zero c, word9, ofBits_bit]

theorem word10 : ∀ (h : Fin 32) (d : Fin 3), lit10 (S1x32x1x3x1.rowMajor (ix5 0 h 0 d 0)) = bit (ins 32 h d) := by
  decide +kernel
/-- Level 2: taps inside the image, columns. -/
theorem tab10 (h : Fin 32) (d : Fin 3) (a b c : Fin 1) :
    Ideal.ofBits .f32 (lit10 (S1x32x1x3x1.rowMajor (ix5 a h b d c))) = ((ind (ins 32 h d) : ℝ) : EReal) := by
  rw [Fin.fin_one_eq_zero a, Fin.fin_one_eq_zero b, Fin.fin_one_eq_zero c, word10, ofBits_bit]

theorem word11 : ∀ (p : Fin 2) (d A : Fin 3) (P : Fin 2),
    lit11 (S2x3x3x2.rowMajor (ix4 p d A P)) = bit (sel 2 A P p d) := by decide +kernel
/-- Level 3: rows' taps. -/
theorem tab11 (p : Fin 2) (d A : Fin 3) (P : Fin 2) :
    Ideal.ofBits .f32 (lit11 (S2x3x3x2.rowMajor (ix4 p d A P))) = ((ind (sel 2 A P p d) : ℝ) : EReal) := by
  rw [word11, ofBits_bit]

theorem word12 : ∀ (p : Fin 2) (d A : Fin 3) (P : Fin 2),
    lit12 (S2x3x3x2.rowMajor (ix4 p d A P)) = bit (sel 2 A P p d) := by decide +kernel
/-- Level 3: columns' taps. -/
theorem tab12 (p : Fin 2) (d A : Fin 3) (P : Fin 2) :
    Ideal.ofBits .f32 (lit12 (S2x3x3x2.rowMajor (ix4 p d A P))) = ((ind (sel 2 A P p d) : ℝ) : EReal) := by
  rw [word12, ofBits_bit]

theorem word14 : ∀ (h : Fin 50) (d : Fin 3), lit14 (S50x1x3x1x1.rowMajor (ix5 h 0 d 0 0)) = bit (ins 50 h d) := by
  decide +kernel
/-- Level 3: taps inside the image, rows. -/
theorem tab14 (h : Fin 50) (d : Fin 3) (a b c : Fin 1) :
    Ideal.ofBits .f32 (lit14 (S50x1x3x1x1.rowMajor (ix5 h a d b c))) = ((ind (ins 50 h d) : ℝ) : EReal) := by
  rw [Fin.fin_one_eq_zero a, Fin.fin_one_eq_zero b, Fin.fin_one_eq_zero c, word14, ofBits_bit]

theorem word15 : ∀ (h : Fin 64) (d : Fin 3), lit15 (S1x64x1x3x1.rowMajor (ix5 0 h 0 d 0)) = bit (ins 64 h d) := by
  decide +kernel
/-- Level 3: taps inside the image, columns. -/
theorem tab15 (h : Fin 64) (d : Fin 3) (a b c : Fin 1) :
    Ideal.ofBits .f32 (lit15 (S1x64x1x3x1.rowMajor (ix5 a h b d c))) = ((ind (ins 64 h d) : ℝ) : EReal) := by
  rw [Fin.fin_one_eq_zero a, Fin.fin_one_eq_zero b, Fin.fin_one_eq_zero c, word15, ofBits_bit]

end Cert.Decoder
end
-- ==== Proof.Host0.lean ====
module

public import proofs.«01_k».proof.Proof.Tables
public import proofs.«01_k».proof.Proof.Gen.KernelIdeal.Skeleton
public import Idealize.ShloMosaic.Lib.ValueIdxCore

/-!
# The linear layer's columns, reordered

The kernel reads the linear layer's weight and bias through a fixed list of column numbers.
Each number is in range, so the read is the operand at that column.
-/

@[expose] public section

noncomputable section
namespace Cert.Decoder
open Idealize.ShloMosaic Cert.KernelIdeal Cert.KernelIdeal.Gen

/-- The list of column numbers, as the program passes it to its two reads. -/
def cols : IVec S256x1 32 :=
  broadcastInDim S256x1 ![0] Cert.KernelIdeal.Facts₀.bcast_S256_S256x1_0
    (select (constantI S256 1 0#1)
      (addi (fun i => lit0 (S256.rowMajor i)) (broadcastInDim S256 ![] Cert.KernelIdeal.Facts₀.bcast_S_S256 (constantI S_ 32 256#32)))
      fun i => lit0 (S256.rowMajor i))

/-- The number of column `k`, before any rewriting of its place in the list. -/
theorem cols_val (k : Fin 256) : (cols (ix2 k 0)).toInt.toNat = k % 32 * 8 + k / 32 := by
  have h : cols (ix2 k 0) = lit0 k := by
    have e : S256.rowMajor (ix1 k) = k := by
      apply Fin.ext
      simp [Shape.rowMajor_val_one]
    show (if (0#1 : BitVec 1) = 1#1 then lit0 (S256.rowMajor (ix1 k)) + 256#32
      else lit0 (S256.rowMajor (ix1 k))) = _
    rw [if_neg (by decide), e]
  rw [h, word0]
  revert k
  decide +kernel

/-- The weight's columns, read. -/
theorem gather_cols {α : Type} (x : S4x256.Idx → α) (i : Fin 4) (k : Fin 256) :
    Host.gather gather_S4x256_S256x1_S4x256_0_1_n_n_1_1_41 x cols (ix2 i k)
      = x (ix2 i ⟨k % 32 * 8 + k / 32, by omega⟩) := by
  unfold Host.gather
  congr 1
  funext a
  refine Fin.ext ?_
  match a with
  | ⟨0, _⟩ =>
    show gather_S4x256_S256x1_S4x256_0_1_n_n_1_1_41.start (ix2 i k) cols (0 : Fin 2)
      + gather_S4x256_S256x1_S4x256_0_1_n_n_1_1_41.batchCoord (ix2 i k) (0 : Fin 2)
      + gather_S4x256_S256x1_S4x256_0_1_n_n_1_1_41.offCoord (ix2 i k) (0 : Fin 2) = _
    rw [GatherDims.batchCoord_eq_zero _ _ _ List.not_mem_nil]
    unfold GatherDims.start
    rw [dif_neg (by decide)]
    simp only [Nat.zero_add, Nat.add_zero]
    rfl
  | ⟨1, _⟩ =>
    show gather_S4x256_S256x1_S4x256_0_1_n_n_1_1_41.start (ix2 i k) cols (1 : Fin 2)
      + gather_S4x256_S256x1_S4x256_0_1_n_n_1_1_41.batchCoord (ix2 i k) (1 : Fin 2)
      + gather_S4x256_S256x1_S4x256_0_1_n_n_1_1_41.offCoord (ix2 i k) (1 : Fin 2) = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (by decide)]
    have e : ∀ p, GatherDims.siIdx gather_S4x256_S256x1_S4x256_0_1_n_n_1_1_41 (ix2 i k) p = ix2 k 0 := by
      intro p
      funext b
      refine Fin.ext ?_
      match b with
      | ⟨0, _⟩ => rfl
      | ⟨1, _⟩ => exact Nat.lt_one_iff.mp (Fin.isLt _)
    rw [e, cols_val]
    have := k.isLt
    show min _ 255 = (k : ℕ) % 32 * 8 + k / 32
    omega

/-- The bias's columns, read. -/
theorem gather_bias {α : Type} (x : S256.Idx → α) (k : Fin 256) :
    Host.gather gather_S256_S256x1_S256_n_0_n_n_0_1_1 x cols (ix1 k)
      = x (ix1 ⟨k % 32 * 8 + k / 32, by omega⟩) := by
  unfold Host.gather
  congr 1
  funext a
  obtain rfl : a = 0 := Subsingleton.elim _ _
  refine Fin.ext ?_
  show gather_S256_S256x1_S256_n_0_n_n_0_1_1.start (ix1 k) cols (0 : Fin 1)
      + gather_S256_S256x1_S256_n_0_n_n_0_1_1.batchCoord (ix1 k) (0 : Fin 1)
      + gather_S256_S256x1_S256_n_0_n_n_0_1_1.offCoord (ix1 k) (0 : Fin 1) = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (by decide)]
  have e : ∀ p, GatherDims.siIdx gather_S256_S256x1_S256_n_0_n_n_0_1_1 (ix1 k) p = ix2 k 0 := by
    intro p
    funext b
    refine Fin.ext ?_
    match b with
    | ⟨0, _⟩ => rfl
    | ⟨1, _⟩ => exact Nat.lt_one_iff.mp (Fin.isLt _)
  rw [e, cols_val]
  have := k.isLt
  show min _ 255 = (k : ℕ) % 32 * 8 + k / 32
  omega

end Cert.Decoder
-- ==== Proof.Host1.lean ====
module

public import proofs.«01_k».proof.Proof.Gen.KernelIdeal.Frame
public import proofs.«01_k».proof.Proof.Levels
public import proofs.«01_k».proof.Proof.Host0
public import Idealize.ShloMosaic.Lib.StableHlo.ReadAt
public import Idealize.ShloMosaic.Lib.Tactic.ValueTie

/-!
# The region's small operands

What the host operations before the region leave in the sample block, the linear layer's matrix and
bias, and the three levels' bias images: the real numbers of the decoder's parameters.
-/

@[expose] public section

set_option maxRecDepth 16384
set_option maxHeartbeats 4000000

noncomputable section
namespace Cert.Decoder
open Idealize.ShloMosaic Idealize.ShloMosaic.StableHlo Idealize.ShloMosaic.TcCoe
open Cert.KernelIdeal Cert.KernelIdeal.Gen

/-- The kernel's fifteen arguments, as the launch finds them, hold the parameters `N`. -/
abbrev KerOf (N : Net) (m : (ℓ : Loc nD τ sig) → Buf (Elt Ideal) ℓ) (c : Dev nD) : Prop :=
  N.Of (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5))
    (m (c, Proc.devRef .tc main_arg6)) (m (c, Proc.devRef .tc main_arg7)) (m (c, Proc.devRef .tc main_arg8))
    (m (c, Proc.devRef .tc main_arg9)) (m (c, Proc.devRef .tc main_arg10)) (m (c, Proc.devRef .tc main_arg11))
    (m (c, Proc.devRef .tc main_arg12)) (m (c, Proc.devRef .tc main_arg13)) (m (c, Proc.devRef .tc main_arg14))

variable {N : Net} {m : (ℓ : Loc nD τ sig) → Buf (Elt Ideal) ℓ} {c : Dev nD} (hN : KerOf N m c)
include hN

/-- The samples. -/
theorem host_lat : Rd2 (a := 1024) (b := 4) (φ := .bf16) (V m c main_v127) N.lat := by
  intro i j
  unfold V V0
  after_reads_at
  exact hN.lat i j

/-- The linear layer's matrix. -/
theorem host_W0 : Rd2 (a := 4) (b := 256) (φ := .bf16) (V m c main_v12) N.W0 := by
  intro i k
  unfold V V0
  after_reads_at
  refine (gather_cols _ i k).trans ?_
  pointwise
  exact hN.Wl _ _

/-- The linear layer's bias. -/
theorem host_b0 : Rd2 (a := 1) (b := 256) (φ := .f32) (V m c main_v18) N.b0 := by
  intro i k
  unfold V V0
  after_reads_at
  exact (gather_bias _ k).trans (hN.bl _)

/-- Level 1's bias image. -/
theorem host_A1 : Rd3 (a := 5) (b := 1) (c := 256) (φ := .f32) (V m c main_v55) N.A1 := by
  intro h i J
  have eu := hN.bu1
  have ec := hN.Wc1
  have eb := hN.bc1
  unfold Rd1 at eu eb
  unfold Rd4 at ec
  unfold V V0
  after_reads_at
  simp only [eu, ec, eb, tab4, tab5, coe_dot, ← EReal.coe_mul, ← coe_sum, ← EReal.coe_add]
  rfl

/-- Level 2's bias image. -/
theorem host_A2 : Rd3 (a := 25) (b := 1) (c := 256) (φ := .f32) (V m c main_v90) N.A2 := by
  intro h i J
  have eu := hN.bu2
  have ec := hN.Wc2
  have eb := hN.bc2
  unfold Rd1 at eu eb
  unfold Rd4 at ec
  unfold V V0
  after_reads_at
  simp only [eu, ec, eb, tab9, tab10, coe_dot, ← EReal.coe_mul, ← coe_sum, ← EReal.coe_add]
  rfl

/-- Level 3's bias image. -/
theorem host_A3 : Rd3 (a := 50) (b := 1) (c := 384) (φ := .f32) (V m c main_v126) N.A3 := by
  intro h i J
  have eu := hN.bu3
  have ec := hN.Wc3
  have eb := hN.bc3
  unfold Rd1 at eu eb
  unfold Rd4 at ec
  unfold V V0
  after_reads_at
  simp only [eu, ec, eb, tab14, tab15, coe_dot, ← EReal.coe_mul, ← coe_sum, ← EReal.coe_add]
  rfl

end Cert.Decoder
-- ==== Proof.Read.lean ====
module

public import Idealize.ShloMosaic.Lib.Pointwise.Reduce
public import Idealize.ShloMosaic.Lib.Pointwise.Tactic

@[expose] public section

/-!
# Reading a rank-8 sum over the two leading axes

The banded weights are sums, over the two leading axes, of rank-8 arrays. An entry of such a sum is
the double sum along those axes of the array at the index that keeps the other six coordinates.
-/

namespace Cert.Decoder
open Idealize.ShloMosaic

section lead
variable {a b n₀ n₁ n₂ n₃ n₄ n₅ : ℕ} {t : Shape}

/-- The rank-8 shape with the two summed axes in front. -/
abbrev S8 (a b n₀ n₁ n₂ n₃ n₄ n₅ : ℕ) : Shape := ⟨8, ![a, b, n₀, n₁, n₂, n₃, n₄, n₅]⟩

variable (h : (S8 a b n₀ n₁ n₂ n₃ n₄ n₅).ReducesTo [0, 1] t)
include h

/-- The result of the sum has six axes. -/
theorem lead_lt (k : Fin 6) : (k : ℕ) < t.rank := by
  have : t.rank = 6 := h.1
  omega

/-- The result index's coordinate on axis `k`. -/
def leadCoord (j : t.Idx) (k : Fin 6) : ℕ := (j ⟨k, lead_lt h k⟩ : ℕ)

/-- The source index with the summed coordinates `p`, `q` and the result's six coordinates. -/
def leadIdx (j : t.Idx) (p : Fin a) (q : Fin b) : (S8 a b n₀ n₁ n₂ n₃ n₄ n₅).Idx :=
  ix8 p q ⟨leadCoord h j 0, Shape.coordLt _ (h.2 ⟨0, lead_lt h 0⟩)⟩
    ⟨leadCoord h j 1, Shape.coordLt _ (h.2 ⟨1, lead_lt h 1⟩)⟩
    ⟨leadCoord h j 2, Shape.coordLt _ (h.2 ⟨2, lead_lt h 2⟩)⟩
    ⟨leadCoord h j 3, Shape.coordLt _ (h.2 ⟨3, lead_lt h 3⟩)⟩
    ⟨leadCoord h j 4, Shape.coordLt _ (h.2 ⟨4, lead_lt h 4⟩)⟩
    ⟨leadCoord h j 5, Shape.coordLt _ (h.2 ⟨5, lead_lt h 5⟩)⟩

/-- The source indices that fall on `j` are those with `j`'s coordinates behind the summed ones. -/
theorem lead_fiber (j : t.Idx) (i : (S8 a b n₀ n₁ n₂ n₃ n₄ n₅).Idx) :
    h.drop i = j ↔ ∃ k : Fin a × Fin b, leadIdx h j k.1 k.2 = i := by
  constructor
  · rintro rfl
    refine ⟨(i 0, i 1), funext fun d => Fin.ext ?_⟩
    match d with
    | 0 | 1 | 2 | 3 | 4 | 5 | 6 | 7 => rfl
  · rintro ⟨k, rfl⟩
    refine funext fun d => Fin.ext ?_
    match d with
    | ⟨0, _⟩ | ⟨1, _⟩ | ⟨2, _⟩ | ⟨3, _⟩ | ⟨4, _⟩ | ⟨5, _⟩ => rfl
    | ⟨_ + 6, hd⟩ =>
      have : t.rank = 6 := h.1
      exact absurd hd (by omega)

/-- The sum over the source indices that fall on `j` is the double sum along the leading axes. -/
theorem lead_sum {M : Type*} [AddCommMonoid M] (j : t.Idx) (v : (S8 a b n₀ n₁ n₂ n₃ n₄ n₅).Idx → M) :
    ∑ i ∈ Finset.univ.filter (fun i => h.drop i = j), v i
      = ∑ p : Fin a, ∑ q : Fin b, v (leadIdx h j p q) := by
  rw [Finset.sum_filter_eq_sum_of_fiber _ (fun k : Fin a × Fin b => leadIdx h j k.1 k.2)
    (fun _ _ e => Prod.ext (congrFun e 0) (congrFun e 1)) (lead_fiber h j) v, Fintype.sum_prod_type]

end lead

/-- **The sum at an entry**, for the host's addition over the two leading axes. -/
@[pointwise] theorem host_lead_sum {a b n₀ n₁ n₂ n₃ n₄ n₅ m₀ m₁ m₂ m₃ m₄ m₅ : ℕ}
    (h : (S8 a b n₀ n₁ n₂ n₃ n₄ n₅).ReducesTo [0, 1] ⟨6, ![m₀, m₁, m₂, m₃, m₄, m₅]⟩)
    (x : (S8 a b n₀ n₁ n₂ n₃ n₄ n₅).Idx → EReal) (init : EReal)
    (i₀ : Fin m₀) (i₁ : Fin m₁) (i₂ : Fin m₂) (i₃ : Fin m₃) (i₄ : Fin m₄) (i₅ : Fin m₅) :
    Ideal.hostReduceAdd h x init (ix6 i₀ i₁ i₂ i₃ i₄ i₅)
      = init + ∑ p : Fin a, ∑ q : Fin b, x (ix8 p q
        ⟨i₀, Shape.coordLt i₀ (h.2 0)⟩ ⟨i₁, Shape.coordLt i₁ (h.2 1)⟩ ⟨i₂, Shape.coordLt i₂ (h.2 2)⟩
        ⟨i₃, Shape.coordLt i₃ (h.2 3)⟩ ⟨i₄, Shape.coordLt i₄ (h.2 4)⟩ ⟨i₅, Shape.coordLt i₅ (h.2 5)⟩) := by
  exact congrArg (init + ·) (lead_sum h (ix6 i₀ i₁ i₂ i₃ i₄ i₅) x)

end Cert.Decoder
-- ==== Proof.Table2.lean ====
module

public import proofs.«01_k».proof.Proof.Tables

@[expose] public section

/-!
# Level 2's table of column shifts and phases

The largest tables have modules of their own.
-/

set_option maxRecDepth 100000

noncomputable section
namespace Cert.Decoder
open Idealize.ShloMosaic Cert.KernelIdeal

theorem word8 : ∀ (B : Fin 3) (Q : Fin 2) (j : Fin 16) (w : Fin 32),
    lit8 (S3x2x1x1x16x1x32x1.rowMajor (ix8 B Q 0 0 j 0 w 0)) = bit (shf B Q j w) := by decide +kernel
/-- Level 2: columns' shifts and phases. -/
theorem tab8 (B : Fin 3) (Q : Fin 2) (j : Fin 16) (w : Fin 32) (a b c d : Fin 1) :
    Ideal.ofBits .f32 (lit8 (S3x2x1x1x16x1x32x1.rowMajor (ix8 B Q a b j c w d))) = ((ind (shf B Q j w) : ℝ) : EReal) := by
  rw [Fin.fin_one_eq_zero a, Fin.fin_one_eq_zero b, Fin.fin_one_eq_zero c, Fin.fin_one_eq_zero d, word8, ofBits_bit]

end Cert.Decoder
end
-- ==== Proof.Host2.lean ====
module

public import proofs.«01_k».proof.Proof.Gen.KernelIdeal.Frame
public import proofs.«01_k».proof.Proof.Levels
public import proofs.«01_k».proof.Proof.Host1
public import proofs.«01_k».proof.Proof.Read
public import proofs.«01_k».proof.Proof.Table2
public import Idealize.ShloMosaic.Lib.StableHlo.ReadAt
public import Idealize.ShloMosaic.Lib.Tactic.ValueTie

/-!
# The region's banded matrices, levels 1 and 2

The host composes the unpooling's weights with the convolution's, sums the products over the kernel
positions in two stages against two tables of zeros and ones, and places the results along a band.
-/

@[expose] public section

set_option maxRecDepth 16384
set_option maxHeartbeats 4000000

noncomputable section
namespace Cert.Decoder
open Idealize.ShloMosaic Idealize.ShloMosaic.StableHlo Idealize.ShloMosaic.TcCoe
open Cert.KernelIdeal Cert.KernelIdeal.Gen

/-- The composed weights, summed in two stages: over the row positions, then over the column
positions. The unpooling's weights are read reversed. -/
theorem comp_two (S Cm : ℕ) (Wu Wc : W4) (A B P Q k o : ℕ) :
    ∑ q : Fin 2, ∑ v : Fin 3, (∑ p : Fin S, ∑ d : Fin 3,
      (∑ l : Fin Cm, Wc d v l o * Wu (S - (p + 1)) (2 - (q + 1)) k l) * ind (sel S A P p d))
        * ind (sel 2 B Q q v)
      = comp S Cm Wu Wc A B P Q k o := by
  unfold comp
  have e (p : Fin S) (d : Fin 3) (q : Fin 2) (v : Fin 3) :
      ∑ l : Fin Cm, Wc d v l o * Wu (S - (p + 1)) (2 - (q + 1)) k l = prod S Cm Wu Wc p d q v k o := by
    unfold prod
    refine Finset.sum_congr rfl fun l _ => ?_
    rw [mul_comm, show S - ((p : ℕ) + 1) = S - 1 - p by omega, show 2 - ((q : ℕ) + 1) = 1 - q by omega]
  simp only [e, Finset.sum_mul]
  have s : ∀ f : Fin 2 → Fin 3 → Fin S → Fin 3 → ℝ,
      ∑ q, ∑ v, ∑ p, ∑ d, f q v p d = ∑ p, ∑ d, ∑ q, ∑ v, f q v p d := by
    intro f
    have h (q : Fin 2) : ∑ v, ∑ p, ∑ d, f q v p d = ∑ p, ∑ d, ∑ v, f q v p d := by
      rw [Finset.sum_comm]
      exact Finset.sum_congr rfl fun p _ => Finset.sum_comm
    rw [Finset.sum_congr rfl fun q _ => h q, Finset.sum_comm]
    exact Finset.sum_congr rfl fun p _ => Finset.sum_comm
  exact s _

/-- Level 1's table of columns at any index. -/
theorem shf1 (i : S3x2x1x1x8x1x16x1.Idx) : Ideal.ofBits .f32 (lit3 (S3x2x1x1x8x1x16x1.rowMajor i))
    = ((ind (shf (i 0) (i 1) (i 4) (i 6)) : ℝ) : EReal) := by
  have e : ix8 (i 0) (i 1) (i 2) (i 3) (i 4) (i 5) (i 6) (i 7) = i := by
    funext a
    fin_cases a <;> rfl
  exact (congrArg (fun j => Ideal.ofBits .f32 (lit3 (S3x2x1x1x8x1x16x1.rowMajor j))) e).symm.trans
    (tab3 (i 0) (i 1) (i 4) (i 6) (i 2) (i 3) (i 5) (i 7))

/-- Level 2's table of columns at any index. -/
theorem shf2 (i : S3x2x1x1x16x1x32x1.Idx) : Ideal.ofBits .f32 (lit8 (S3x2x1x1x16x1x32x1.rowMajor i))
    = ((ind (shf (i 0) (i 1) (i 4) (i 6)) : ℝ) : EReal) := by
  have e : ix8 (i 0) (i 1) (i 2) (i 3) (i 4) (i 5) (i 6) (i 7) = i := by
    funext a
    fin_cases a <;> rfl
  exact (congrArg (fun j => Ideal.ofBits .f32 (lit8 (S3x2x1x1x16x1x32x1.rowMajor j))) e).symm.trans
    (tab8 (i 0) (i 1) (i 4) (i 6) (i 2) (i 3) (i 5) (i 7))

/-- A read of real weights at any index. -/
theorem rd4_idx {a b c d : ℕ} {φ : FTy} {X : FVec Ideal ⟨4, ![a, b, c, d]⟩ φ} {f : W4} (h : Rd4 X f)
    (i : (⟨4, ![a, b, c, d]⟩ : Shape).Idx) : X i = ((f (i 0) (i 1) (i 2) (i 3) : ℝ) : EReal) := by
  have e : ix4 (i 0) (i 1) (i 2) (i 3) = i := by
    funext a
    fin_cases a <;> rfl
  exact (congrArg X e).symm.trans (h _ _ _ _)

variable {N : Net} {m : (ℓ : Loc nD τ sig) → Buf (Elt Ideal) ℓ} {c : Dev nD} (hN : KerOf N m c)
include hN

/-- Level 1's banded matrices. -/
theorem host_B1 : Rd3 (a := 5) (b := 256) (c := 256) (φ := .bf16) (V m c main_v42) N.B1 := by
  intro P k J
  have eu := rd4_idx hN.Wu1
  have ec := hN.Wc1
  unfold Rd4 at ec
  unfold V V0
  after_reads_at
  simp only [eu, ec, tab1, tab2, ← EReal.coe_mul, ← coe_sum]
  conv_lhs =>
    enter [2, B, 2, Q, 1]
    erw [shf1]
  simp only [← EReal.coe_mul, ← coe_sum]
  refine congrArg Real.toEReal ?_
  unfold Net.B1 band
  simp only [← comp_two]
  simp [Fin.val_rev]

/-- Level 2's banded matrices. -/
theorem host_B2 : Rd4 (a := 3) (b := 5) (c := 256) (d := 256) (φ := .bf16) (V m c main_v77) N.B2 := by
  intro A P k J
  have eu := rd4_idx hN.Wu2
  have ec := hN.Wc2
  unfold Rd4 at ec
  unfold V V0
  after_reads_at
  simp only [eu, ec, tab6, tab7, ← EReal.coe_mul, ← coe_sum]
  conv_lhs =>
    enter [2, B, 2, Q, 1]
    erw [shf2]
  simp only [← EReal.coe_mul, ← coe_sum]
  refine congrArg Real.toEReal ?_
  unfold Net.B2 band
  simp only [← comp_two]
  simp [Fin.val_rev]

end Cert.Decoder
-- ==== Proof.Table3.lean ====
module

public import proofs.«01_k».proof.Proof.Tables

@[expose] public section

/-!
# Level 3's table of column shifts and phases

The largest tables have modules of their own.
-/

set_option maxRecDepth 100000

noncomputable section
namespace Cert.Decoder
open Idealize.ShloMosaic Cert.KernelIdeal

theorem word13 : ∀ (B : Fin 3) (Q : Fin 2) (j : Fin 32) (w : Fin 64),
    lit13 (S3x2x1x1x32x1x1x64.rowMajor (ix8 B Q 0 0 j 0 0 w)) = bit (shf B Q j w) := by decide +kernel
/-- Level 3: columns' shifts and phases. -/
theorem tab13 (B : Fin 3) (Q : Fin 2) (j : Fin 32) (w : Fin 64) (a b c d : Fin 1) :
    Ideal.ofBits .f32 (lit13 (S3x2x1x1x32x1x1x64.rowMajor (ix8 B Q a b j c d w))) = ((ind (shf B Q j w) : ℝ) : EReal) := by
  rw [Fin.fin_one_eq_zero a, Fin.fin_one_eq_zero b, Fin.fin_one_eq_zero c, Fin.fin_one_eq_zero d, word13, ofBits_bit]

end Cert.Decoder
end
-- ==== Proof.Host3.lean ====
module

public import proofs.«01_k».proof.Proof.Gen.KernelIdeal.Frame
public import proofs.«01_k».proof.Proof.Levels
public import proofs.«01_k».proof.Proof.Host2
public import proofs.«01_k».proof.Proof.Table3
public import Idealize.ShloMosaic.Lib.StableHlo.ReadAt
public import Idealize.ShloMosaic.Lib.Tactic.ValueTie

/-!
# The region's banded matrices, level 3

The host composes the unpooling's weights with the convolution's, sums the products over the kernel
positions in two stages against two tables of zeros and ones, and places the results along a band.
-/

@[expose] public section

set_option maxRecDepth 16384
set_option maxHeartbeats 4000000

noncomputable section
namespace Cert.Decoder
open Idealize.ShloMosaic Idealize.ShloMosaic.StableHlo Idealize.ShloMosaic.TcCoe
open Cert.KernelIdeal Cert.KernelIdeal.Gen

/-- Level 3's table of columns at any index. -/
theorem shf3 (i : S3x2x1x1x32x1x1x64.Idx) : Ideal.ofBits .f32 (lit13 (S3x2x1x1x32x1x1x64.rowMajor i))
    = ((ind (shf (i 0) (i 1) (i 4) (i 7)) : ℝ) : EReal) := by
  have e : ix8 (i 0) (i 1) (i 2) (i 3) (i 4) (i 5) (i 6) (i 7) = i := by
    funext a
    fin_cases a <;> rfl
  exact (congrArg (fun j => Ideal.ofBits .f32 (lit13 (S3x2x1x1x32x1x1x64.rowMajor j))) e).symm.trans
    (tab13 (i 0) (i 1) (i 4) (i 7) (i 2) (i 3) (i 5) (i 6))

variable {N : Net} {m : (ℓ : Loc nD τ sig) → Buf (Elt Ideal) ℓ} {c : Dev nD} (hN : KerOf N m c)
include hN

/-- Level 3's banded matrices. -/
theorem host_B3 : Rd4 (a := 3) (b := 2) (c := 256) (d := 384) (φ := .bf16) (V m c main_v112) N.B3 := by
  intro A P k J
  have eu := rd4_idx hN.Wu3
  have ec := hN.Wc3
  unfold Rd4 at ec
  unfold V V0
  after_reads_at
  simp only [eu, ec, tab11, tab12, ← EReal.coe_mul, ← coe_sum]
  conv_lhs =>
    enter [2, B, 2, Q, 1]
    erw [shf3]
  simp only [← EReal.coe_mul, ← coe_sum]
  refine congrArg Real.toEReal ?_
  unfold Net.B3 band
  simp only [← comp_two]
  simp [Fin.val_rev]

end Cert.Decoder
-- ==== Proof.Blocks.lean ====
module

public import proofs.«01_k».proof.Proof.Host3
public import proofs.«01_k».proof.Proof.Gen.KernelIdeal.Frame
public import Idealize.ShloMosaic.Lib.Pipeline.ValueKit.Geometry

/-!
# What a grid step reads

Grid step `t` reads rows `128 * t` to `128 * t + 127` of the samples and every other operand whole.
-/

@[expose] public section

set_option maxRecDepth 16384
set_option maxHeartbeats 4000000

noncomputable section
namespace Cert.Decoder
open Idealize.ShloMosaic Idealize.ShloMosaic.StableHlo Idealize.ShloMosaic.TcCoe
open Idealize.ShloMosaic.Pipeline (Dat)
open Cert.KernelIdeal Cert.KernelIdeal.Gen

/-- The samples' block moves with the grid step. -/
theorem idx0 : ∀ t : Fin cfg0.N, win0_0.index t = ![t.val, 0] :=
  (by decide +kernel : ∀ t : Fin grid0.N, win0_0.index t = ![t.val, 0])
/-- Window 1 has one block. -/
theorem idx1 : ∀ t : Fin cfg0.N, win0_1.index t = ![0, 0] :=
  (by decide +kernel : ∀ t : Fin grid0.N, win0_1.index t = ![0, 0])
/-- Window 2 has one block. -/
theorem idx2 : ∀ t : Fin cfg0.N, win0_2.index t = ![0, 0] :=
  (by decide +kernel : ∀ t : Fin grid0.N, win0_2.index t = ![0, 0])
/-- Window 3 has one block. -/
theorem idx3 : ∀ t : Fin cfg0.N, win0_3.index t = ![0, 0, 0] :=
  (by decide +kernel : ∀ t : Fin grid0.N, win0_3.index t = ![0, 0, 0])
/-- Window 4 has one block. -/
theorem idx4 : ∀ t : Fin cfg0.N, win0_4.index t = ![0, 0, 0] :=
  (by decide +kernel : ∀ t : Fin grid0.N, win0_4.index t = ![0, 0, 0])
/-- Window 5 has one block. -/
theorem idx5 : ∀ t : Fin cfg0.N, win0_5.index t = ![0, 0, 0, 0] :=
  (by decide +kernel : ∀ t : Fin grid0.N, win0_5.index t = ![0, 0, 0, 0])
/-- Window 6 has one block. -/
theorem idx6 : ∀ t : Fin cfg0.N, win0_6.index t = ![0, 0, 0] :=
  (by decide +kernel : ∀ t : Fin grid0.N, win0_6.index t = ![0, 0, 0])
/-- Window 7 has one block. -/
theorem idx7 : ∀ t : Fin cfg0.N, win0_7.index t = ![0, 0, 0, 0] :=
  (by decide +kernel : ∀ t : Fin grid0.N, win0_7.index t = ![0, 0, 0, 0])
/-- Window 8 has one block. -/
theorem idx8 : ∀ t : Fin cfg0.N, win0_8.index t = ![0, 0, 0] :=
  (by decide +kernel : ∀ t : Fin grid0.N, win0_8.index t = ![0, 0, 0])

variable {N : Net} {m : (ℓ : Loc nD τ sig) → Buf (Elt Ideal) ℓ} {c : Dev nD} (hN : KerOf N m c)
include hN

/-- A step's block of samples. -/
theorem block_lat (t : Fin cfg0.N) :
    Rd2 (a := 128) (b := 4) (φ := .bf16) (iblk m c 0 t) (fun r => N.lat (t * 128 + r)) := by
  intro i k
  have ht : (t : ℕ) < 8 := t.isLt
  refine Eq.trans (congrArg (V m c main_v127) ?_) (host_lat hN ⟨t * 128 + i, by omega⟩ k)
  blk_ext [idx0]

/-- A step's block of the linear layer's matrix. -/
theorem block_W0 (t : Fin cfg0.N) : Rd2 (a := 4) (b := 256) (φ := .bf16) (iblk m c 1 t) N.W0 := by
  intro i j
  refine Eq.trans (congrArg (V m c main_v12) ?_) (host_W0 hN i j)
  blk_ext [idx1]
/-- A step's block of the linear layer's bias. -/
theorem block_b0 (t : Fin cfg0.N) : Rd2 (a := 1) (b := 256) (φ := .f32) (iblk m c 2 t) N.b0 := by
  intro i j
  refine Eq.trans (congrArg (V m c main_v18) ?_) (host_b0 hN i j)
  blk_ext [idx2]
/-- A step's block of the first bands. -/
theorem block_B1 (t : Fin cfg0.N) : Rd3 (a := 5) (b := 256) (c := 256) (φ := .bf16) (iblk m c 3 t) N.B1 := by
  intro i j k
  refine Eq.trans (congrArg (V m c main_v42) ?_) (host_B1 hN i j k)
  blk_ext [idx3]
/-- A step's block of the first bias image. -/
theorem block_A1 (t : Fin cfg0.N) : Rd3 (a := 5) (b := 1) (c := 256) (φ := .f32) (iblk m c 4 t) N.A1 := by
  intro i j k
  refine Eq.trans (congrArg (V m c main_v55) ?_) (host_A1 hN i j k)
  blk_ext [idx4]
/-- A step's block of the second bands. -/
theorem block_B2 (t : Fin cfg0.N) : Rd4 (a := 3) (b := 5) (c := 256) (d := 256) (φ := .bf16) (iblk m c 5 t) N.B2 := by
  intro i j k l
  refine Eq.trans (congrArg (V m c main_v77) ?_) (host_B2 hN i j k l)
  blk_ext [idx5]
/-- A step's block of the second bias image. -/
theorem block_A2 (t : Fin cfg0.N) : Rd3 (a := 25) (b := 1) (c := 256) (φ := .f32) (iblk m c 6 t) N.A2 := by
  intro i j k
  refine Eq.trans (congrArg (V m c main_v90) ?_) (host_A2 hN i j k)
  blk_ext [idx6]
/-- A step's block of the third bands. -/
theorem block_B3 (t : Fin cfg0.N) : Rd4 (a := 3) (b := 2) (c := 256) (d := 384) (φ := .bf16) (iblk m c 7 t) N.B3 := by
  intro i j k l
  refine Eq.trans (congrArg (V m c main_v112) ?_) (host_B3 hN i j k l)
  blk_ext [idx7]
/-- A step's block of the third bias image. -/
theorem block_A3 (t : Fin cfg0.N) : Rd3 (a := 50) (b := 1) (c := 384) (φ := .f32) (iblk m c 8 t) N.A3 := by
  intro i j k
  refine Eq.trans (congrArg (V m c main_v126) ?_) (host_A3 hN i j k)
  blk_ext [idx8]

end Cert.Decoder
-- ==== Proof.Body.lean ====
module

public import proofs.«01_k».proof.Proof.Rows
public import proofs.«01_k».proof.Proof.Gen.KernelIdeal.Frame
public import Idealize.ShloMosaic.Lib.Pipeline.ValueKit
public import Idealize.ShloMosaic.Lib.Pipeline.ReadBack
public import Idealize.ShloMosaic.Lib.Tactic.ValueTie

@[expose] public section

/-!
# One grid step of the kernel, as real arithmetic

A grid step reads 128 latent rows and the whole of the weights. It writes level 1's five image rows
into one scratch buffer (between two rows of zeros), level 2's twenty-five image rows into the next
(again between two rows of zeros), and level 3's fifty image rows into the output block. Each image
row is one matrix row per sample, computed from at most three products with the banded weights.

`rowA`, `rowB`, `rowC` are those three lists of rows over the reals; `body` says the block a grid
step leaves in the output window is `rowC` of `rowB` of `rowA` of the linear layer.
-/

set_option maxRecDepth 16384

noncomputable section
namespace Cert.Decoder
open Idealize.ShloMosaic Idealize.ShloMosaic.StableHlo Idealize.ShloMosaic.TcCoe
open Cert.KernelIdeal Cert.KernelIdeal.Gen

/-! ## Small index facts -/

/-- An index of a rank-3 array, from its three coordinates. -/
theorem eq_ix3 {a b c : ℕ} {x : Shape.Idx ⟨3, ![a, b, c]⟩} {i : Fin a} {j : Fin b} {k : Fin c}
    (h0 : (x 0 : ℕ) = i) (h1 : (x 1 : ℕ) = j) (h2 : (x 2 : ℕ) = k) : x = ix3 i j k := by
  funext d
  match d with
  | 0 => exact Fin.ext h0
  | 1 => exact Fin.ext h1
  | 2 => exact Fin.ext h2

/-- The quotient by the 128 rows of a block, at a block's own offset. -/
theorem row_div {n r : ℕ} (hr : r < 128) (hn : n % 128 = 0) : (n + r) / 128 = n / 128 := by omega

/-- The remainder by the 128 rows of a block, at a block's own offset. -/
theorem row_mod {n r : ℕ} (hr : r < 128) (hn : n % 128 = 0) : (n + r) % 128 = r := by omega

variable (c : Dev nD) (i : grid0.Coords)
  (arg1 : Memref sig .tc .vmem S128x4 .bf16) (harg1 : arg1.IsWhole)
  (arg2 : Memref sig .tc .vmem S4x256 .bf16) (harg2 : arg2.IsWhole)
  (arg3 : Memref sig .tc .vmem S1x256 .f32) (harg3 : arg3.IsWhole)
  (arg4 : Memref sig .tc .vmem S5x256x256 .bf16) (harg4 : arg4.IsWhole)
  (arg5 : Memref sig .tc .vmem S5x1x256 .f32) (harg5 : arg5.IsWhole)
  (arg6 : Memref sig .tc .vmem S3x5x256x256 .bf16) (harg6 : arg6.IsWhole)
  (arg7 : Memref sig .tc .vmem S25x1x256 .f32) (harg7 : arg7.IsWhole)
  (arg8 : Memref sig .tc .vmem S3x2x256x384 .bf16) (harg8 : arg8.IsWhole)
  (arg9 : Memref sig .tc .vmem S50x1x384 .f32) (harg9 : arg9.IsWhole)
  (arg10 : Memref sig .tc .vmem S50x128x384 .f32) (harg10 : arg10.IsWhole)
  (arg11 : Memref sig .tc .vmem S7x128x256 .f32) (harg11 : arg11.IsWhole)
  (arg12 : Memref sig .tc .vmem S27x128x256 .f32) (harg12 : arg12.IsWhole)
  (x0 : FVec Ideal S128x4 .bf16)
  (x1 : FVec Ideal S4x256 .bf16)
  (x2 : FVec Ideal S1x256 .f32)
  (x3 : FVec Ideal S5x256x256 .bf16)
  (x4 : FVec Ideal S5x1x256 .f32)
  (x5 : FVec Ideal S3x5x256x256 .bf16)
  (x6 : FVec Ideal S25x1x256 .f32)
  (x7 : FVec Ideal S3x2x256x384 .bf16)
  (x8 : FVec Ideal S50x1x384 .f32)

/-! ## The first scratch buffer -/

section A
variable (l W bl : ℕ → ℕ → ℝ) (b a : ℕ → ℕ → ℕ → ℝ) (e0 : Rd2 (a := 128) (b := 4) (φ := .bf16) x0 l) (e1 : Rd2 (a := 4) (b := 256) (φ := .bf16) x1 W)
  (e2 : Rd2 (a := 1) (b := 256) (φ := .f32) x2 bl) (e3 : Rd3 (a := 5) (b := 256) (c := 256) (φ := .bf16) x3 b) (e4 : Rd3 (a := 5) (b := 1) (c := 256) (φ := .f32) x4 a)
include e0 e1 e2 e3 e4

/-- The first scratch buffer after its writes holds level 1's rows. -/
theorem scratchA : Rd3 (a := 7) (b := 128) (c := 256) (φ := .f32)
    (View.canon (kernelRun0_A.sl.HS0_7 (F := Ideal) c arg1 harg1 arg2 harg2 arg3 harg3 arg4 harg4 arg5 harg5 x0 x1 x2 x3 x4)) (rowA (linear l W bl) b a) := by
  intro h r J
  unfold Rd2 at e0 e1 e2
  unfold Rd3 at e3 e4
  unfold kernelRun0_A.sl.HS0_7
  canon_tiles x h
  all_goals
    obtain rfl : x = ix3 (0 : Fin 1) r J := eq_ix3 (Nat.lt_one_iff.1 x0_lt) h1.symm h2.symm
    replace h0 : (h : ℕ) = _ := h0
    rw [Nat.lt_one_iff.1 x0_lt] at h0
    clear x0_lt x1_lt x2_lt h1 h2
    try simp only [kernelRun0_A.sl.r, kernelRun0_A.sl.r_1, kernelRun0_A.sl.r_2, kernelRun0_A.sl.r_3, kernelRun0_A.sl.r_4]
    open_payloads
    pointwise
    try simp only [Memref.IsWhole.read_unread, e0, e1, e2, e3, e4, coe_dot, leaky_eq, ← EReal.coe_add]
    simp [rowA, linear, h0]

/-- Level 1's rows, read back from the middle. -/
theorem v106_at : Rd3 (a := 5) (b := 128) (c := 256) (φ := .f32)
    (kernelRun0_A.sl.v106 (F := Ideal) c arg1 harg1 arg2 harg2 arg3 harg3 arg4 harg4 arg5 harg5 arg11 x0 x1 x2 x3 x4) (fun h => rowA (linear l W bl) b a (1 + h)) := by
  intro h r J
  have e := scratchA c arg1 harg1 arg2 harg2 arg3 harg3 arg4 harg4 arg5 harg5 x0 x1 x2 x3 x4 l W bl b a e0 e1 e2 e3 e4
  unfold kernelRun0_A.sl.v106
  rw [View.readCov_eq_canon']
  generalize View.canon (kernelRun0_A.sl.HS0_7 (F := Ideal) c arg1 harg1 arg2 harg2 arg3 harg3 arg4 harg4 arg5 harg5 x0 x1 x2 x3 x4) = C at e ⊢
  pointwise
  exact e _ _ _

/-- Level 1's rows, read back one row up (the first is the zero border). -/
theorem v109_at : Rd3 (a := 5) (b := 128) (c := 256) (φ := .f32)
    (kernelRun0_A.sl.v109 (F := Ideal) c arg1 harg1 arg2 harg2 arg3 harg3 arg4 harg4 arg5 harg5 arg11 x0 x1 x2 x3 x4) (fun h => rowA (linear l W bl) b a h) := by
  intro h r J
  have e := scratchA c arg1 harg1 arg2 harg2 arg3 harg3 arg4 harg4 arg5 harg5 x0 x1 x2 x3 x4 l W bl b a e0 e1 e2 e3 e4
  unfold kernelRun0_A.sl.v109
  rw [View.readCov_eq_canon']
  generalize View.canon (kernelRun0_A.sl.HS0_7 (F := Ideal) c arg1 harg1 arg2 harg2 arg3 harg3 arg4 harg4 arg5 harg5 x0 x1 x2 x3 x4) = C at e ⊢
  pointwise
  exact e _ _ _

/-- Level 1's rows, read back one row down (the last is the zero border). -/
theorem v112_at : Rd3 (a := 5) (b := 128) (c := 256) (φ := .f32)
    (kernelRun0_A.sl.v112 (F := Ideal) c arg1 harg1 arg2 harg2 arg3 harg3 arg4 harg4 arg5 harg5 arg11 x0 x1 x2 x3 x4) (fun h => rowA (linear l W bl) b a (2 + h)) := by
  intro h r J
  have e := scratchA c arg1 harg1 arg2 harg2 arg3 harg3 arg4 harg4 arg5 harg5 x0 x1 x2 x3 x4 l W bl b a e0 e1 e2 e3 e4
  unfold kernelRun0_A.sl.v112
  rw [View.readCov_eq_canon']
  generalize View.canon (kernelRun0_A.sl.HS0_7 (F := Ideal) c arg1 harg1 arg2 harg2 arg3 harg3 arg4 harg4 arg5 harg5 x0 x1 x2 x3 x4) = C at e ⊢
  pointwise
  exact e _ _ _

end A

/-! ## The second scratch buffer -/

section B
variable (X : ℕ → ℕ → ℕ → ℝ) (b : W4) (a : ℕ → ℕ → ℕ → ℝ)
  (e106 : Rd3 (a := 5) (b := 128) (c := 256) (φ := .f32) (kernelRun0_A.sl.v106 (F := Ideal) c arg1 harg1 arg2 harg2 arg3 harg3 arg4 harg4 arg5 harg5 arg11 x0 x1 x2 x3 x4) (fun h => X (1 + h)))
  (e109 : Rd3 (a := 5) (b := 128) (c := 256) (φ := .f32) (kernelRun0_A.sl.v109 (F := Ideal) c arg1 harg1 arg2 harg2 arg3 harg3 arg4 harg4 arg5 harg5 arg11 x0 x1 x2 x3 x4) (fun h => X h))
  (e112 : Rd3 (a := 5) (b := 128) (c := 256) (φ := .f32) (kernelRun0_A.sl.v112 (F := Ideal) c arg1 harg1 arg2 harg2 arg3 harg3 arg4 harg4 arg5 harg5 arg11 x0 x1 x2 x3 x4) (fun h => X (2 + h)))
  (e5 : Rd4 (a := 3) (b := 5) (c := 256) (d := 256) (φ := .bf16) x5 b)
  (e6 : Rd3 (a := 25) (b := 1) (c := 256) (φ := .f32) x6 a)
include e106 e109 e112 e5 e6

/-- The second scratch buffer after its writes holds level 2's rows. -/
theorem scratchB : Rd3 (a := 27) (b := 128) (c := 256) (φ := .f32)
    (View.canon (kernelRun0_A.sl.HS1_27 (F := Ideal) c arg1 harg1 arg2 harg2 arg3 harg3 arg4 harg4 arg5 harg5 arg6 harg6 arg7 harg7 arg11 x0 x1 x2 x3 x4 x5 x6)) (rowB X b a) := by
  intro h r J
  unfold Rd3 at e106 e109 e112 e6
  unfold Rd4 at e5
  have q0 : (r : ℕ) / 128 = 0 := Nat.div_eq_of_lt r.isLt
  have q2 : (256 + (r : ℕ)) / 128 = 2 := by omega
  have q3 : (384 + (r : ℕ)) / 128 = 3 := by omega
  have q4 : (512 + (r : ℕ)) / 128 = 4 := by omega
  unfold kernelRun0_A.sl.HS1_27
  canon_tiles x h
  all_goals
    obtain rfl : x = ix3 (0 : Fin 1) r J := eq_ix3 (Nat.lt_one_iff.1 x0_lt) h1.symm h2.symm
    replace h0 : (h : ℕ) = _ := h0
    rw [Nat.lt_one_iff.1 x0_lt] at h0
    clear x0_lt x1_lt x2_lt h1 h2
    try simp only [kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.cst_153]
    open_payloads
    pointwise
    try simp only [Memref.IsWhole.read_unread, e106, e109, e112, e5, e6, coe_dot, leaky_eq, ← EReal.coe_add]
    try simp [rowB, h0, q0, q2, q3, q4, Nat.mod_eq_of_lt r.isLt]

/-- Level 2's rows, read back from the middle. -/
theorem v493_at : Rd3 (a := 25) (b := 128) (c := 256) (φ := .f32)
    (kernelRun0_A.sl.v493 (F := Ideal) c arg1 harg1 arg2 harg2 arg3 harg3 arg4 harg4 arg5 harg5 arg6 harg6 arg7 harg7 arg11 arg12 x0 x1 x2 x3 x4 x5 x6) (fun h => rowB X b a (1 + h)) := by
  intro h r J
  have e := scratchB c arg1 harg1 arg2 harg2 arg3 harg3 arg4 harg4 arg5 harg5 arg6 harg6 arg7 harg7 arg11 x0 x1 x2 x3 x4 x5 x6 X b a e106 e109 e112 e5 e6
  unfold kernelRun0_A.sl.v493
  rw [View.readCov_eq_canon']
  generalize View.canon (kernelRun0_A.sl.HS1_27 (F := Ideal) c arg1 harg1 arg2 harg2 arg3 harg3 arg4 harg4 arg5 harg5 arg6 harg6 arg7 harg7 arg11 x0 x1 x2 x3 x4 x5 x6) = C at e ⊢
  pointwise
  exact e _ _ _

/-- Level 2's rows, read back one row up. -/
theorem v496_at : Rd3 (a := 25) (b := 128) (c := 256) (φ := .f32)
    (kernelRun0_A.sl.v496 (F := Ideal) c arg1 harg1 arg2 harg2 arg3 harg3 arg4 harg4 arg5 harg5 arg6 harg6 arg7 harg7 arg11 arg12 x0 x1 x2 x3 x4 x5 x6) (fun h => rowB X b a h) := by
  intro h r J
  have e := scratchB c arg1 harg1 arg2 harg2 arg3 harg3 arg4 harg4 arg5 harg5 arg6 harg6 arg7 harg7 arg11 x0 x1 x2 x3 x4 x5 x6 X b a e106 e109 e112 e5 e6
  unfold kernelRun0_A.sl.v496
  rw [View.readCov_eq_canon']
  generalize View.canon (kernelRun0_A.sl.HS1_27 (F := Ideal) c arg1 harg1 arg2 harg2 arg3 harg3 arg4 harg4 arg5 harg5 arg6 harg6 arg7 harg7 arg11 x0 x1 x2 x3 x4 x5 x6) = C at e ⊢
  pointwise
  exact e _ _ _

/-- Level 2's rows, read back one row down. -/
theorem v499_at : Rd3 (a := 25) (b := 128) (c := 256) (φ := .f32)
    (kernelRun0_A.sl.v499 (F := Ideal) c arg1 harg1 arg2 harg2 arg3 harg3 arg4 harg4 arg5 harg5 arg6 harg6 arg7 harg7 arg11 arg12 x0 x1 x2 x3 x4 x5 x6) (fun h => rowB X b a (2 + h)) := by
  intro h r J
  have e := scratchB c arg1 harg1 arg2 harg2 arg3 harg3 arg4 harg4 arg5 harg5 arg6 harg6 arg7 harg7 arg11 x0 x1 x2 x3 x4 x5 x6 X b a e106 e109 e112 e5 e6
  unfold kernelRun0_A.sl.v499
  rw [View.readCov_eq_canon']
  generalize View.canon (kernelRun0_A.sl.HS1_27 (F := Ideal) c arg1 harg1 arg2 harg2 arg3 harg3 arg4 harg4 arg5 harg5 arg6 harg6 arg7 harg7 arg11 x0 x1 x2 x3 x4 x5 x6) = C at e ⊢
  pointwise
  exact e _ _ _

end B

/-! ## The output block -/

section C
variable (X : ℕ → ℕ → ℕ → ℝ) (b : W4) (a : ℕ → ℕ → ℕ → ℝ)
  (e493 : Rd3 (a := 25) (b := 128) (c := 256) (φ := .f32) (kernelRun0_A.sl.v493 (F := Ideal) c arg1 harg1 arg2 harg2 arg3 harg3 arg4 harg4 arg5 harg5 arg6 harg6 arg7 harg7 arg11 arg12 x0 x1 x2 x3 x4 x5 x6) (fun h => X (1 + h)))
  (e496 : Rd3 (a := 25) (b := 128) (c := 256) (φ := .f32) (kernelRun0_A.sl.v496 (F := Ideal) c arg1 harg1 arg2 harg2 arg3 harg3 arg4 harg4 arg5 harg5 arg6 harg6 arg7 harg7 arg11 arg12 x0 x1 x2 x3 x4 x5 x6) (fun h => X h))
  (e499 : Rd3 (a := 25) (b := 128) (c := 256) (φ := .f32) (kernelRun0_A.sl.v499 (F := Ideal) c arg1 harg1 arg2 harg2 arg3 harg3 arg4 harg4 arg5 harg5 arg6 harg6 arg7 harg7 arg11 arg12 x0 x1 x2 x3 x4 x5 x6) (fun h => X (2 + h)))
  (e7 : Rd4 (a := 3) (b := 2) (c := 256) (d := 384) (φ := .bf16) x7 b)
  (e8 : Rd3 (a := 50) (b := 1) (c := 384) (φ := .f32) x8 a)
include e493 e496 e499 e7 e8

set_option maxHeartbeats 2000000 in
/-- The output block holds level 3's rows. -/
theorem outC : Rd3 (a := 50) (b := 128) (c := 384) (φ := .f32)
    (out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8) (rowC X b a) := by
  intro h r J
  unfold Rd3 at e493 e496 e499 e8
  unfold Rd4 at e7
  unfold out0_A_9
  rw [View.read_writes_junk_eq_canon]
  unfold kernelRun0_A
  dsimp only
  have q0 : (r : ℕ) / 128 = 0 := Nat.div_eq_of_lt r.isLt
  canon_tiles x h
  all_goals
    obtain rfl : x = ix3 (0 : Fin 1) r J := eq_ix3 (Nat.lt_one_iff.1 x0_lt) h1.symm h2.symm
    replace h0 : (h : ℕ) = _ := h0
    rw [Nat.lt_one_iff.1 x0_lt] at h0
    clear x0_lt x1_lt x2_lt h1 h2
    try simp only [kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.cst_344]
    open_payloads
    pointwise
    try simp only [Memref.IsWhole.read_unread, e493, e496, e499, e7, e8, coe_dot, relu_eq, ← EReal.coe_add]
    try simp (disch := omega) [rowC, h0, q0, row_div, row_mod, Nat.mod_eq_of_lt r.isLt]

end C

/-- **One grid step**: the output block from the blocks the step reads. -/
theorem body (l W bl : ℕ → ℕ → ℝ) (b₁ a₁ : ℕ → ℕ → ℕ → ℝ) (b₂ : W4) (a₂ : ℕ → ℕ → ℕ → ℝ)
    (b₃ : W4) (a₃ : ℕ → ℕ → ℕ → ℝ)
    (e0 : Rd2 (a := 128) (b := 4) (φ := .bf16) x0 l)
    (e1 : Rd2 (a := 4) (b := 256) (φ := .bf16) x1 W)
    (e2 : Rd2 (a := 1) (b := 256) (φ := .f32) x2 bl)
    (e3 : Rd3 (a := 5) (b := 256) (c := 256) (φ := .bf16) x3 b₁)
    (e4 : Rd3 (a := 5) (b := 1) (c := 256) (φ := .f32) x4 a₁)
    (e5 : Rd4 (a := 3) (b := 5) (c := 256) (d := 256) (φ := .bf16) x5 b₂)
    (e6 : Rd3 (a := 25) (b := 1) (c := 256) (φ := .f32) x6 a₂)
    (e7 : Rd4 (a := 3) (b := 2) (c := 256) (d := 384) (φ := .bf16) x7 b₃)
    (e8 : Rd3 (a := 50) (b := 1) (c := 384) (φ := .f32) x8 a₃) :
    Rd3 (a := 50) (b := 128) (c := 384) (φ := .f32)
      (out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)
      (rowC (rowB (rowA (linear l W bl) b₁ a₁) b₂ a₂) b₃ a₃) := by
  have p := v106_at c arg1 harg1 arg2 harg2 arg3 harg3 arg4 harg4 arg5 harg5 arg11 x0 x1 x2 x3 x4 l W bl b₁ a₁ e0 e1 e2 e3 e4
  have q := v109_at c arg1 harg1 arg2 harg2 arg3 harg3 arg4 harg4 arg5 harg5 arg11 x0 x1 x2 x3 x4 l W bl b₁ a₁ e0 e1 e2 e3 e4
  have s := v112_at c arg1 harg1 arg2 harg2 arg3 harg3 arg4 harg4 arg5 harg5 arg11 x0 x1 x2 x3 x4 l W bl b₁ a₁ e0 e1 e2 e3 e4
  have p' := v493_at c arg1 harg1 arg2 harg2 arg3 harg3 arg4 harg4 arg5 harg5 arg6 harg6 arg7 harg7 arg11 arg12 x0 x1 x2 x3 x4 x5 x6 (rowA (linear l W bl) b₁ a₁) b₂ a₂ p q s e5 e6
  have q' := v496_at c arg1 harg1 arg2 harg2 arg3 harg3 arg4 harg4 arg5 harg5 arg6 harg6 arg7 harg7 arg11 arg12 x0 x1 x2 x3 x4 x5 x6 (rowA (linear l W bl) b₁ a₁) b₂ a₂ p q s e5 e6
  have s' := v499_at c arg1 harg1 arg2 harg2 arg3 harg3 arg4 harg4 arg5 harg5 arg6 harg6 arg7 harg7 arg11 arg12 x0 x1 x2 x3 x4 x5 x6 (rowA (linear l W bl) b₁ a₁) b₂ a₂ p q s e5 e6
  exact outC c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (rowB (rowA (linear l W bl) b₁ a₁) b₂ a₂) b₃ a₃ p' q' s' e7 e8

end Cert.Decoder
-- ==== Proof.Array.lean ====
module

public import proofs.«01_k».proof.Proof.Blocks
public import proofs.«01_k».proof.Proof.Body
public import proofs.«01_k».proof.Proof.RefRun
public import Idealize.ShloMosaic.Lib.Claim

/-!
# The kernel's result

Grid step `t` writes the images of rows `128 * t` to `128 * t + 127` of the samples. The steps'
blocks tile the output array; the host operations after the region reorder its axes.
-/

@[expose] public section

set_option maxRecDepth 16384
set_option maxHeartbeats 4000000

noncomputable section
namespace Cert.Decoder
open Idealize.ShloMosaic Idealize.ShloMosaic.StableHlo Idealize.ShloMosaic.TcCoe
open Idealize.ShloMosaic.Pipeline (Dat)
open Cert.KernelIdeal Cert.KernelIdeal.Gen

/-- The output's block moves with the grid step. -/
theorem idx9 : ∀ t : Fin cfg0.N, win0_9.index t = ![0, t.val, 0] :=
  (by decide +kernel : ∀ t : Fin grid0.N, win0_9.index t = ![0, t.val, 0])

section
variable {N : Net} {m : (ℓ : Loc nD τ sig) → Buf (Elt Ideal) ℓ} {c : Dev nD} (hN : KerOf N m c)
include hN

/-- What a grid step writes. -/
theorem block_out (t : Fin cfg0.N) (y : (⟨3, ![50, 128, 384]⟩ : Shape).Idx) :
    outsAt0 m c t y = ((N.img3 (t * 128 + y 1) (y 0) ((y 2 : ℕ) % 64) ((y 2 : ℕ) / 64) : ℝ) : EReal) := by
  have h := body c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t) (hs0_9 t)
    scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t)
    (iblk m c 8 t) _ _ _ _ _ _ _ _ _ (block_lat hN t) (block_W0 hN t) (block_b0 hN t) (block_B1 hN t) (block_A1 hN t)
    (block_B2 hN t) (block_A2 hN t) (block_B3 hN t) (block_A3 hN t) (y 0) (y 1) (y 2)
  have e : ix3 (y 0) (y 1) (y 2) = y := by
    funext k
    fin_cases k <;> rfl
  refine (congrArg (outsAt0 m c t) e).symm.trans (h.trans (congrArg _ ?_))
  exact ((N.rows_eq (fun r => t * 128 + r) (y 0) (y 1) (y 2) (y 0).isLt (y 2).isLt))

/-- The output array after the region. -/
theorem out_array : (dats m 0 c).arrAt 9 cfg0.N
    = fun y : S50x1024x384.Idx => ((N.img3 (y 1) (y 0) ((y 2 : ℕ) % 64) ((y 2 : ℕ) / 64) : ℝ) : EReal) := by
  refine (dats m 0 c).arrAt_eq_of_covers 9 _ (by decide +kernel) fun t hf y => ?_
  blk_simp [idx9]
  rw [after0_9]
  exact block_out hN t y

/-- The result after the host operations that follow the region. -/
theorem result_at : Rd4 (a := 1024) (b := 6) (c := 50) (d := 64) (φ := .f32)
    (Pipeline.afterTail₀ cfgs (dats m) 0 (V0 m) [hostOps1] c main_v130) (fun n o h w => N.img3 n h w o) := by
  intro n o h w
  have e : Pipeline.withArrays spec0 c (V0 m c) (fun w => (dats m 0 c).arrAt w cfg0.N) (Proc.devRef .tc main_v128)
      = fun y : S50x1024x384.Idx => ((N.img3 (y 1) (y 0) ((y 2 : ℕ) % 64) ((y 2 : ℕ) / 64) : ℝ) : EReal) :=
    (Pipeline.withArrays_arr spec0 (by decide) c (V0 m c) _ 9).trans (out_array hN)
  unfold Pipeline.afterTail₀
  after_reads_at
  refine (congrFun e _).trans (congrArg _ ?_)
  change N.img3 n h ((o * 64 + w : ℕ) % 64) ((o * 64 + w : ℕ) / 64) = N.img3 n h w o
  rw [show (o * 64 + w : ℕ) % 64 = w by omega, show (o * 64 + w : ℕ) / 64 = o by omega]

end

/-- The kernel's run: its result is the images and its arguments are unchanged. -/
theorem kernel_run (m : (ℓ : Loc nD τ sig) → Buf (Elt Ideal) ℓ) (ρ : Dev nD → PrngReg) (N : Dev nD → Net)
    (hN : ∀ c, KerOf (N c) m c) :
    θ_run defs (onTc (τ := τ) (main (F := Ideal))) ⟨m, fun _ => 0, ρ⟩ fun r => ∀ c : Dev nD,
      r.2.mem ((c.tc : Thread nD τ).loc main_v130) = (N c).images
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨((h.1 c).2 main_v130 (Pipeline.mem_restRefs_of main_v130 (by decide) (by decide))).trans
    (images_of_rd4 (result_at (hN c))), h.2 c⟩) (θ_run_and (run_main m ρ) (unchanged m ρ))

end Cert.Decoder
end
-- ==== Proof.lean ====
/- The certificate's claim: the decoder kernel and its plain reference, as extended reals, end with the same images.

   Both programs are proved to compute one decoder of real numbers (`Net.img3`, in Reals.lean): the reference layer by
   layer (RefValue.lean, RefRun.lean), the kernel as banded matrix products whose bands are built before the region
   (Host0.lean to Host3.lean), whose rows are computed grid step by grid step (Body.lean, Blocks.lean, Array.lean), and
   whose fusion of an unpooling with the convolution after it is an identity of sums (Fuse.lean, Levels.lean). -/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Finite
public import proofs.«01_k».proof.Proof.RefRun
public import proofs.«01_k».proof.Proof.Array
public import Idealize.ShloMosaic.Lib.Claim

@[expose] public section

noncomputable section

namespace Cert.Proof

open Idealize.ShloMosaic Idealize.SL.Sem Cert.Decoder

/-- The reference's frame: its run, and no semaphore is declared. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same frame under the precondition. -/
theorem frame_reference_finite : Cert.quiescent_ReferenceIdeal_pre_finite := fun m ρ _ =>
  frame_reference m ρ trivial

/-- The kernel and the reference end with the same images. -/
theorem same_images : Cert.algebraic_KernelIdeal_ReferenceIdeal_pre_finite := by
  intro m g m' g' hfin hag
  choose N hN using fun c => net_of_finite _ _ _ _ _ _ _ _ _ _ _ _ _ _ _ (hfin c)
  refine ⟨fun c => (N c).images, kernel_run m g N hN, ref_run m' g' N fun c => ?_⟩
  obtain ⟨e0, e1, e2, e3, e4, e5, e6, e7, e8, e9, e10, e11, e12, e13, e14⟩ := hag c
  exact (hN c).of_eq e0 e1 e2 e3 e4 e5 e6 e7 e8 e9 e10 e11 e12 e13 e14

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, frame_reference, frame_reference_finite, trivial, same_images⟩

end Cert.Proof

end
